-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_below_infinity [hPre_gate_below_infinity : Cert.Pre_gate_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_gate_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_below_infinity [hPre_gate_below_infinity : Cert.Pre_gate_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gate_below_infinity [hKernelIdeal : Cert.KernelIdeal.Facts] [hPre_gate_below_infinity : Cert.Pre_gate_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gate_below_infinity [hReferenceIdeal : Cert.ReferenceIdeal.Facts] [hPre_gate_below_infinity : Cert.Pre_gate_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gate_below_infinity [hKernelIdeal : Cert.KernelIdeal.Facts] [hReferenceIdeal : Cert.ReferenceIdeal.Facts] [hPre_gate_below_infinity : Cert.Pre_gate_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gate_below_infinity : Cert.Pre_gate_below_infinity.Facts),
    quiescent_Kernel (hKernel := hKernel)
    ∧ quiescent_KernelIdeal (hKernelIdeal := hKernelIdeal)
    ∧ quiescent_KernelIdeal_pre_gate_below_infinity (hKernelIdeal := hKernelIdeal) (hPre_gate_below_infinity := hPre_gate_below_infinity)
    ∧ quiescent_ReferenceIdeal (hReferenceIdeal := hReferenceIdeal)
    ∧ quiescent_ReferenceIdeal_pre_gate_below_infinity (hReferenceIdeal := hReferenceIdeal) (hPre_gate_below_infinity := hPre_gate_below_infinity)
    ∧ preserves_Kernel_KernelIdeal
    ∧ algebraic_KernelIdeal_ReferenceIdeal_pre_gate_below_infinity (hKernelIdeal := hKernelIdeal) (hReferenceIdeal := hReferenceIdeal) (hPre_gate_below_infinity := hPre_gate_below_infinity)
-- ==== Pre_gate_below_infinity.lean ====
abbrev S32768x768 : Shape := ⟨2, ![32768, 768]⟩
abbrev S8x768x10 : Shape := ⟨3, ![8, 768, 10]⟩
abbrev S8x10 : Shape := ⟨2, ![8, 10]⟩
abbrev S768x8 : Shape := ⟨2, ![768, 8]⟩
abbrev S8 : Shape := ⟨1, ![8]⟩
abbrev S32768x8 : Shape := ⟨2, ![32768, 8]⟩
abbrev S1x8 : Shape := ⟨2, ![1, 8]⟩
abbrev S_ : Shape := ⟨0, ![]⟩

class Facts : Prop where
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  bcast_S_S32768x8 : S_.BroadcastsInDim S32768x8 (![] : Fin 0 → Fin S32768x8.rank)
  reducesTo_S32768x8_S_d0_1 : S32768x8.ReducesTo [0, 1] S_
  h_S_ : 0 < S_.numel
  dot_S32768x768_S768x8_S32768x8_1_0_0_1_n_n_wf : DotDims.WF S32768x768 S768x8 S32768x8 [1] [0] [0] [1] [] []

variable [Facts]

def dot_S32768x768_S768x8_S32768x8_1_0_0_1_n_n : DotDims S32768x768 S768x8 S32768x8 where
  lhsContracting := [1]
  rhsContracting := [0]
  lhsNonContracting := [0]
  rhsNonContracting := [1]
  lhsBatch := []
  rhsBatch := []
  wf := dot_S32768x768_S768x8_S32768x8_1_0_0_1_n_n_wf
def fn {F : FTy → Type} [FloatOps F] (main_arg0 : FVec F S32768x768 .f32) (main_arg1 : FVec F S8x768x10 .f32) (main_arg2 : FVec F S8x10 .f32) (main_arg3 : FVec F S768x8 .f32) (main_arg4 : FVec F S8 .f32) : IVec S_ 1 :=
  let main_v0 : FVec F S32768x8 .f32 := (fun l r => Host.dotGeneral dot_S32768x768_S768x8_S32768x8_1_0_0_1_n_n none l r) main_arg0 main_arg3
  let main_v1 : FVec F S1x8 .f32 := broadcastInDim S1x8 ![1] bcast_S8_S1x8_1 main_arg4
  let main_v2 : FVec F S32768x8 .f32 := broadcastInDim S32768x8 ![0, 1] bcast_S1x8_S32768x8_0_1 main_v1
  let main_v3 : FVec F S32768x8 .f32 := addf main_v0 main_v2
  let main_cst : FVec F S_ .f32 := constant S_ .f32 0x7F800000#32
  let main_v4 : FVec F S32768x8 .f32 := broadcastInDim S32768x8 ![] bcast_S_S32768x8 main_cst
  let main_v5 : IVec S32768x8 1 := cmpf .olt main_v3 main_v4
  let main_c : IVec S_ 1 := constantI S_ 1 1#1
  let main_v6 : IVec S_ 1 := (fun x v => Host.reduce IntOp.andi x v reducesTo_S32768x8_S_d0_1 h_S_) main_v5 main_c
  main_v6
-- ==== Kernel.lean ====
abbrev S32768x768 : Shape := ⟨2, ![32768, 768]⟩
abbrev S8x768x10 : Shape := ⟨3, ![8, 768, 10]⟩
abbrev S8x10 : Shape := ⟨2, ![8, 10]⟩
abbrev S768x8 : Shape := ⟨2, ![768, 8]⟩
abbrev S8 : Shape := ⟨1, ![8]⟩
abbrev S768x8x10 : Shape := ⟨3, ![768, 8, 10]⟩
abbrev S768x80 : Shape := ⟨2, ![768, 80]⟩
abbrev S768x88 : Shape := ⟨2, ![768, 88]⟩
abbrev S1x80 : Shape := ⟨2, ![1, 80]⟩
abbrev S1x8 : Shape := ⟨2, ![1, 8]⟩
abbrev S1x88 : Shape := ⟨2, ![1, 88]⟩
abbrev S80 : Shape := ⟨1, ![80]⟩
abbrev S_ : Shape := ⟨0, ![]⟩
abbrev S8x1 : Shape := ⟨2, ![8, 1]⟩
abbrev S8x80 : Shape := ⟨2, ![8, 80]⟩
abbrev S80x1 : Shape := ⟨2, ![80, 1]⟩
abbrev S10 : Shape := ⟨1, ![10]⟩
abbrev S1x10 : Shape := ⟨2, ![1, 10]⟩
abbrev S80x10 : Shape := ⟨2, ![80, 10]⟩
abbrev S32768x10 : Shape := ⟨2, ![32768, 10]⟩
abbrev S8x32768x10 : Shape := ⟨3, ![8, 32768, 10]⟩
abbrev S2048x768 : Shape := ⟨2, ![2048, 768]⟩
abbrev S2048x10 : Shape := ⟨2, ![2048, 10]⟩
abbrev S8x2048x10 : Shape := ⟨3, ![8, 2048, 10]⟩
abbrev S2048x88 : Shape := ⟨2, ![2048, 88]⟩
abbrev S2048x8 : Shape := ⟨2, ![2048, 8]⟩
abbrev S2048 : Shape := ⟨1, ![2048]⟩
abbrev S2048x1 : Shape := ⟨2, ![2048, 1]⟩
abbrev S1x2048x10 : Shape := ⟨3, ![1, 2048, 10]⟩
abbrev S2048x80 : Shape := ⟨2, ![2048, 80]⟩

abbrev nBuf : Space → Nat
  | .hbm => 70
  | .vmem => 11
  | .smem => 0
  | _ => 0

abbrev bufTy : (tb : Table) → Fin (tcTables nBuf tb) → BufTy
  | .hbm, ⟨0, _⟩ => ⟨S32768x768, .f32⟩
  | .hbm, ⟨1, _⟩ => ⟨S8x768x10, .f32⟩
  | .hbm, ⟨2, _⟩ => ⟨S8x10, .f32⟩
  | .hbm, ⟨3, _⟩ => ⟨S768x8, .f32⟩
  | .hbm, ⟨4, _⟩ => ⟨S8, .f32⟩
  | .hbm, ⟨5, _⟩ => ⟨S768x8x10, .f32⟩
  | .hbm, ⟨6, _⟩ => ⟨S768x80, .f32⟩
  | .hbm, ⟨7, _⟩ => ⟨S768x88, .f32⟩
  | .hbm, ⟨8, _⟩ => ⟨S1x80, .f32⟩
  | .hbm, ⟨9, _⟩ => ⟨S1x8, .f32⟩
  | .hbm, ⟨10, _⟩ => ⟨S1x88, .f32⟩
  | .hbm, ⟨11, _⟩ => ⟨S80, .i32⟩
  | .hbm, ⟨12, _⟩ => ⟨S1x80, .i32⟩
  | .hbm, ⟨13, _⟩ => ⟨S_, .i32⟩
  | .hbm, ⟨14, _⟩ => ⟨S_, .i32⟩
  | .hbm, ⟨15, _⟩ => ⟨S1x80, .i32⟩
  | .hbm, ⟨16, _⟩ => ⟨S1x80, .i32⟩
  | .hbm, ⟨17, _⟩ => ⟨S1x80, .i32⟩
  | .hbm, ⟨18, _⟩ => ⟨S_, .i32⟩
  | .hbm, ⟨19, _⟩ => ⟨S1x80, .i32⟩
  | .hbm, ⟨20, _⟩ => ⟨S1x80, .i1⟩
  | .hbm, ⟨21, _⟩ => ⟨S1x80, .i32⟩
  | .hbm, ⟨22, _⟩ => ⟨S1x80, .i32⟩
  | .hbm, ⟨23, _⟩ => ⟨S_, .i32⟩
  | .hbm, ⟨24, _⟩ => ⟨S1x80, .i32⟩
  | .hbm, ⟨25, _⟩ => ⟨S1x80, .i1⟩
  | .hbm, ⟨26, _⟩ => ⟨S1x80, .i1⟩
  | .hbm, ⟨27, _⟩ => ⟨S_, .i32⟩
  | .hbm, ⟨28, _⟩ => ⟨S1x80, .i32⟩
  | .hbm, ⟨29, _⟩ => ⟨S1x80, .i32⟩
  | .hbm, ⟨30, _⟩ => ⟨S1x80, .i32⟩
  | .hbm, ⟨31, _⟩ => ⟨S8, .i32⟩
  | .hbm, ⟨32, _⟩ => ⟨S8x1, .i32⟩
  | .hbm, ⟨33, _⟩ => ⟨S8x80, .i32⟩
  | .hbm, ⟨34, _⟩ => ⟨S8x80, .i32⟩
  | .hbm, ⟨35, _⟩ => ⟨S8x80, .i1⟩
  | .hbm, ⟨36, _⟩ => ⟨S8x80, .f32⟩
  | .hbm, ⟨37, _⟩ => ⟨S80, .i32⟩
  | .hbm, ⟨38, _⟩ => ⟨S80x1, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S80x1, .i32⟩
  | .hbm, ⟨46, _⟩ => ⟨S80x1, .i32⟩
  | .hbm, ⟨47, _⟩ => ⟨S_, .i32⟩
  | .hbm, ⟨48, _⟩ => ⟨S80x1, .i32⟩
  | .hbm, ⟨49, _⟩ => ⟨S80x1, .i1⟩
  | .hbm, ⟨50, _⟩ => ⟨S_, .i32⟩
  | .hbm, ⟨51, _⟩ => ⟨S80x1, .i32⟩
  | .hbm, ⟨52, _⟩ => ⟨S80x1, .i1⟩
  | .hbm, ⟨53, _⟩ => ⟨S_, .i32⟩
  | .hbm, ⟨54, _⟩ => ⟨S_, .i1⟩
  | .hbm, ⟨55, _⟩ => ⟨S80x1, .i1⟩
  | .hbm, ⟨56, _⟩ => ⟨S80x1, .i1⟩
  | .hbm, ⟨57, _⟩ => ⟨S80x1, .i1⟩
  | .hbm, ⟨58, _⟩ => ⟨S80x1, .i32⟩
  | .hbm, ⟨59, _⟩ => ⟨S80x1, .i32⟩
  | .hbm, ⟨60, _⟩ => ⟨S80x1, .i32⟩
  | .hbm, ⟨61, _⟩ => ⟨S10, .i32⟩
  | .hbm, ⟨62, _⟩ => ⟨S1x10, .i32⟩
  | .hbm, ⟨63, _⟩ => ⟨S80x10, .i32⟩
  | .hbm, ⟨64, _⟩ => ⟨S80x10, .i32⟩
  | .hbm, ⟨65, _⟩ => ⟨S80x10, .i1⟩
  | .hbm, ⟨66, _⟩ => ⟨S80x10, .f32⟩
  | .hbm, ⟨67, _⟩ => ⟨S32768x10, .f32⟩
  | .hbm, ⟨68, _⟩ => ⟨S8x32768x10, .f32⟩
  | .hbm, ⟨69, _⟩ => ⟨S1x8, .i32⟩
  | .local _ .vmem, ⟨0, _⟩ => ⟨S2048x768, .f32⟩
  | .local _ .vmem, ⟨1, _⟩ => ⟨S2048x768, .f32⟩
  | .local _ .vmem, ⟨2, _⟩ => ⟨S768x88, .f32⟩
  | .local _ .vmem, ⟨3, _⟩ => ⟨S1x88, .f32⟩
  | .local _ .vmem, ⟨4, _⟩ => ⟨S8x80, .f32⟩
  | .local _ .vmem, ⟨5, _⟩ => ⟨S80x10, .f32⟩
  | .local _ .vmem, ⟨6, _⟩ => ⟨S2048x10, .f32⟩
  | .local _ .vmem, ⟨7, _⟩ => ⟨S2048x10, .f32⟩
  | .local _ .vmem, ⟨8, _⟩ => ⟨S8x2048x10, .f32⟩
  | .local _ .vmem, ⟨9, _⟩ => ⟨S8x2048x10, .f32⟩
  | .local _ .vmem, ⟨10, _⟩ => ⟨S1x8, .i32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_0 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24_0 : Ref sig .tc := ⟨.hbm, 67, rfl⟩
abbrev main_v24_1 : Ref sig .tc := ⟨.hbm, 68, rfl⟩
abbrev main_v24_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v78 : BitVec 1 := Scalar.cmpi .eq arg0 c0_i32
  let v79 : BitVec 32 := Scalar.extui v78
  let c0_i32_38 : BitVec 32 := 0#32
  let v80 : BitVec 1 := Scalar.cmpi .ne v79 c0_i32_38
  v80

def k0_cond2 (i : grid0.Coords) : BitVec 1 :=
  let arg0 : BitVec 32 := BitVec.ofNat 32 (i 0).val
  let c0_i32_39 : BitVec 32 := 0#32
  let v81 : BitVec 1 := Scalar.cmpi .sgt arg0 c0_i32_39
  let v82 : BitVec 32 := Scalar.extui v81
  let c0_i32_40 : BitVec 32 := 0#32
  let v83 : BitVec 1 := Scalar.cmpi .ne v82 c0_i32_40
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x88 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x88 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32768x768 : Shape := ⟨2, ![32768, 768]⟩
abbrev S8x768x10 : Shape := ⟨3, ![8, 768, 10]⟩
abbrev S8x10 : Shape := ⟨2, ![8, 10]⟩
abbrev S768x8 : Shape := ⟨2, ![768, 8]⟩
abbrev S8 : Shape := ⟨1, ![8]⟩
abbrev S8x10x32768 : Shape := ⟨3, ![8, 10, 32768]⟩
abbrev S8x32768x10 : Shape := ⟨3, ![8, 32768, 10]⟩
abbrev S8x1x10 : Shape := ⟨3, ![8, 1, 10]⟩
abbrev S32768x8 : Shape := ⟨2, ![32768, 8]⟩
abbrev S1x8 : Shape := ⟨2, ![1, 8]⟩
abbrev S_ : Shape := ⟨0, ![]⟩
abbrev S32768 : Shape := ⟨1, ![32768]⟩
abbrev S32768x1 : Shape := ⟨2, ![32768, 1]⟩
abbrev S32768x1x1 : Shape := ⟨3, ![32768, 1, 1]⟩
abbrev S32768x1x2 : Shape := ⟨3, ![32768, 1, 2]⟩
abbrev S8x32768 : Shape := ⟨2, ![8, 32768]⟩
abbrev S8x32768x1 : Shape := ⟨3, ![8, 32768, 1]⟩
abbrev S32768x10 : Shape := ⟨2, ![32768, 10]⟩

abbrev nBuf : Space → Nat
  | .hbm => 81
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S8x768x10, .f32⟩
  | .hbm, ⟨2, _⟩ => ⟨S8x10, .f32⟩
  | .hbm, ⟨3, _⟩ => ⟨S768x8, .f32⟩
  | .hbm, ⟨4, _⟩ => ⟨S8, .f32⟩
  | .hbm, ⟨5, _⟩ => ⟨S8x10x32768, .f32⟩
  | .hbm, ⟨6, _⟩ => ⟨S8x32768x10, .f32⟩
  | .hbm, ⟨7, _⟩ => ⟨S8x1x10, .f32⟩
  | .hbm, ⟨8, _⟩ => ⟨S8x32768x10, .f32⟩
  | .hbm, ⟨9, _⟩ => ⟨S8x32768x10, .f32⟩
  | .hbm, ⟨10, _⟩ => ⟨S32768x8, .f32⟩
  | .hbm, ⟨11, _⟩ => ⟨S1x8, .f32⟩
  | .hbm, ⟨12, _⟩ => ⟨S32768x8, .f32⟩
  | .hbm, ⟨13, _⟩ => ⟨S32768x8, .f32⟩
  | .hbm, ⟨14, _⟩ => ⟨S_, .f32⟩
  | .hbm, ⟨15, _⟩ => ⟨S32768, .f32⟩
  | .hbm, ⟨16, _⟩ => ⟨S_, .f32⟩
  | .hbm, ⟨17, _⟩ => ⟨S32768, .f32⟩
  | .hbm, ⟨18, _⟩ => ⟨S32768, .f32⟩
  | .hbm, ⟨19, _⟩ => ⟨S32768x1, .f32⟩
  | .hbm, ⟨20, _⟩ => ⟨S32768x8, .f32⟩
  | .hbm, ⟨21, _⟩ => ⟨S32768x8, .f32⟩
  | .hbm, ⟨22, _⟩ => ⟨S32768x8, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S32768x8, .f32⟩
  | .hbm, ⟨27, _⟩ => ⟨S32768x8, .f32⟩
  | .hbm, ⟨28, _⟩ => ⟨S32768x1, .f32⟩
  | .hbm, ⟨29, _⟩ => ⟨S32768x1, .i32⟩
  | .hbm, ⟨30, _⟩ => ⟨S_, .f32⟩
  | .hbm, ⟨31, _⟩ => ⟨S32768x8, .f32⟩
  | .hbm, ⟨32, _⟩ => ⟨S32768, .i32⟩
  | .hbm, ⟨33, _⟩ => ⟨S32768x1, .i32⟩
  | .hbm, ⟨34, _⟩ => ⟨S_, .i32⟩
  | .hbm, ⟨35, _⟩ => ⟨S32768x1, .i32⟩
  | .hbm, ⟨36, _⟩ => ⟨S32768x1, .i1⟩
  | .hbm, ⟨37, _⟩ => ⟨S_, .i32⟩
  | .hbm, ⟨38, _⟩ => ⟨S32768x1, .i32⟩
  | .hbm, ⟨39, _⟩ => ⟨S32768x1, .i32⟩
  | .hbm, ⟨40, _⟩ => ⟨S32768x1, .i32⟩
  | .hbm, ⟨41, _⟩ => ⟨S_, .i32⟩
  | .hbm, ⟨42, _⟩ => ⟨S32768x1, .i32⟩
  | .hbm, ⟨43, _⟩ => ⟨S32768x1, .i1⟩
  | .hbm, ⟨44, _⟩ => ⟨S_, .i32⟩
  | .hbm, ⟨45, _⟩ => ⟨S32768x1, .i32⟩
  | .hbm, ⟨46, _⟩ => ⟨S32768x1, .i32⟩
  | .hbm, ⟨47, _⟩ => ⟨S32768x1, .i32⟩
  | .hbm, ⟨48, _⟩ => ⟨S32768x1x1, .i32⟩
  | .hbm, ⟨49, _⟩ => ⟨S32768x1x1, .i32⟩
  | .hbm, ⟨50, _⟩ => ⟨S32768x1x2, .i32⟩
  | .hbm, ⟨51, _⟩ => ⟨S_, .f32⟩
  | .hbm, ⟨52, _⟩ => ⟨S32768x1, .f32⟩
  | .hbm, ⟨53, _⟩ => ⟨S32768x8, .f32⟩
  | .hbm, ⟨54, _⟩ => ⟨S_, .f32⟩
  | .hbm, ⟨55, _⟩ => ⟨S8x32768, .f32⟩
  | .hbm, ⟨56, _⟩ => ⟨S_, .f32⟩
  | .hbm, ⟨57, _⟩ => ⟨S8x32768, .f32⟩
  | .hbm, ⟨58, _⟩ => ⟨S8x32768, .f32⟩
  | .hbm, ⟨59, _⟩ => ⟨S8x32768x1, .f32⟩
  | .hbm, ⟨60, _⟩ => ⟨S8x32768x10, .f32⟩
  | .hbm, ⟨61, _⟩ => ⟨S8x32768x10, .f32⟩
  | .hbm, ⟨62, _⟩ => ⟨S8x32768x10, .f32⟩
  | .hbm, ⟨63, _⟩ => ⟨S_, .f32⟩
  | .hbm, ⟨64, _⟩ => ⟨S8x32768, .f32⟩
  | .hbm, ⟨65, _⟩ => ⟨S8x32768x1, .f32⟩
  | .hbm, ⟨66, _⟩ => ⟨S8x32768x10, .f32⟩
  | .hbm, ⟨67, _⟩ => ⟨S8x32768x10, .f32⟩
  | .hbm, ⟨68, _⟩ => ⟨S8x32768, .f32⟩
  | .hbm, ⟨69, _⟩ => ⟨S8x32768x1, .f32⟩
  | .hbm, ⟨70, _⟩ => ⟨S8x32768x10, .f32⟩
  | .hbm, ⟨71, _⟩ => ⟨S8x32768x10, .f32⟩
  | .hbm, ⟨72, _⟩ => ⟨S_, .f32⟩
  | .hbm, ⟨73, _⟩ => ⟨S32768x10, .f32⟩
  | .hbm, ⟨74, _⟩ => ⟨S_, .f32⟩
  | .hbm, ⟨75, _⟩ => ⟨S32768x8, .f32⟩
  | .hbm, ⟨76, _⟩ => ⟨S32768x8, .i1⟩
  | .hbm, ⟨77, _⟩ => ⟨S32768x8, .i32⟩
  | .hbm, ⟨78, _⟩ => ⟨S_, .i32⟩
  | .hbm, ⟨79, _⟩ => ⟨S8, .i32⟩
  | .hbm, ⟨80, _⟩ => ⟨S1x8, .i32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_values : Ref sig .tc := ⟨.hbm, 28, rfl⟩
abbrev main_indices : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_12 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proof.Spec.lean ====
/- What the mixture computes, as plain functions on the extended reals: the logits of every expert and of the gate, the
   expert a row selects (the first one of greatest gate logit), a row's softmax, and the three results in these terms. -/
module

public import Idealize.ShloMosaic.PureOps.Ideal.Laws
public import Idealize.ShloMosaic.Lib.ValueIdx

@[expose] public section

noncomputable section

namespace Mixture

open Idealize.ShloMosaic Idealize.ShloMosaic.ValueIdx

/-! ## The first greatest entry of a finite family -/

/-- `n` is the first position at which `g` is greatest: no entry exceeds it and the earlier ones are below it. -/
def Selects {N : ℕ} (g : Fin N → EReal) (n : Fin N) : Prop := (∀ k, g k ≤ g n) ∧ ∀ k, k < n → g k < g n

/-- Two first greatest positions agree. -/
theorem Selects.unique {N : ℕ} {g : Fin N → EReal} {a b : Fin N} (ha : Selects g a) (hb : Selects g b) : a = b := by
  rcases lt_trichotomy a b with h | h | h
  · exact absurd (ha.1 b) (not_le.2 (hb.2 a h))
  · exact h
  · exact absurd (hb.1 a) (not_le.2 (ha.2 b h))

/-- A nonempty family has a first greatest position. -/
theorem exists_selects {N : ℕ} (hN : 0 < N) (g : Fin N → EReal) : ∃ n, Selects g n := by
  haveI : Nonempty (Fin N) := ⟨⟨0, hN⟩⟩
  obtain ⟨m, hm⟩ := Finite.exists_max g
  have hne : (Finset.univ.filter fun k => g m ≤ g k).Nonempty := ⟨m, by simp⟩
  refine ⟨(Finset.univ.filter fun k => g m ≤ g k).min' hne, ?_⟩
  have hmem := Finset.min'_mem _ hne
  rw [Finset.mem_filter] at hmem
  refine ⟨fun k => (hm k).trans hmem.2, fun k hk => lt_of_lt_of_le ?_ hmem.2⟩
  by_contra h
  exact absurd (Finset.min'_le _ k (by simpa using not_lt.1 h)) (not_le.2 hk)

/-- The first position at which a family of eight entries is greatest. -/
def first (g : Fin 8 → EReal) : Fin 8 := (exists_selects (by decide) g).choose

/-- It is one. -/
theorem first_selects (g : Fin 8 → EReal) : Selects g (first g) := (exists_selects (by decide) g).choose_spec

/-- Any first greatest position is it. -/
theorem Selects.eq_first {g : Fin 8 → EReal} {n : Fin 8} (h : Selects g n) : n = first g := h.unique (first_selects g)

/-! ## A row's maximum and softmax -/

/-- The greatest entry of a family, `-∞` of the empty one. -/
def top {N : ℕ} (v : Fin N → EReal) : EReal := (Finset.univ : Finset (Fin N)).fold max ⊥ v

/-- Taking the maximum with `-∞` once more changes nothing. -/
theorem max_bot_top {N : ℕ} (v : Fin N → EReal) : max ⊥ (top v) = top v := max_eq_right bot_le

/-- Every entry is at most the greatest. -/
theorem le_top' {N : ℕ} (v : Fin N → EReal) (k : Fin N) : v k ≤ top v :=
  (Finset.le_fold_max (v k)).2 (Or.inr ⟨k, Finset.mem_univ k, le_rfl⟩)

/-- A bound on every entry bounds the greatest. -/
theorem top_le {N : ℕ} {v : Fin N → EReal} {b : EReal} (h : ∀ k, v k ≤ b) : top v ≤ b :=
  (Finset.fold_max_le b).2 ⟨bot_le, fun k _ => h k⟩

/-- The entry at a first greatest position is the greatest. -/
theorem Selects.top_eq {N : ℕ} {g : Fin N → EReal} {n : Fin N} (h : Selects g n) : top g = g n :=
  le_antisymm (top_le h.1) (le_top' g n)

/-- The softmax of a family: exponentials of the entries less the greatest, over their sum. -/
def softmax {N : ℕ} (v : Fin N → EReal) (c : Fin N) : EReal :=
  Ideal.div (Ideal.exp (v c - top v)) (∑ k, Ideal.exp (v k - top v))

/-! ## The results -/

/-- The arrays' shapes. -/
abbrev Sx : Shape := ⟨2, ![32768, 768]⟩
abbrev Swe : Shape := ⟨3, ![8, 768, 10]⟩
abbrev Sbe : Shape := ⟨2, ![8, 10]⟩
abbrev Swg : Shape := ⟨2, ![768, 8]⟩
abbrev Sbg : Shape := ⟨1, ![8]⟩

variable (x : Sx.Idx → EReal) (We : Swe.Idx → EReal) (be : Sbe.Idx → EReal) (Wg : Swg.Idx → EReal) (bg : Sbg.Idx → EReal)

/-- Expert `n`'s logit of class `c` for row `b`: the row's product with the expert's weights, and its bias. -/
def logit (b : Fin 32768) (n : Fin 8) (c : Fin 10) : EReal :=
  (∑ d : Fin 768, x (ix2 b d) * We (ix3 n d c)) + be (ix2 n c)

/-- The gate's logit of expert `n` for row `b`. -/
def gate (b : Fin 32768) (n : Fin 8) : EReal := (∑ d : Fin 768, x (ix2 b d) * Wg (ix2 d n)) + bg (ix1 n)

/-- The expert row `b` selects: the first of greatest gate logit. -/
def pick (b : Fin 32768) : Fin 8 := first (gate x Wg bg b)

/-- The combined prediction of row `b`: the softmax of the selected expert's logits. -/
def comb (b : Fin 32768) (c : Fin 10) : EReal := softmax (logit x We be b (pick x Wg bg b)) c

/-- How many rows select expert `n`, as a 32-bit word. -/
def load (n : Fin 8) : BitVec 32 :=
  BitVec.ofNat 32 ((Finset.univ : Finset (Fin 32768)).filter fun b => pick x Wg bg b = n).card

end Mixture

end
-- ==== Proof.Indices.lean ====
module

public import Idealize.ShloMosaic.Lib.Pipeline.Value
public import proofs.«01_k».proof.Proof.Spec

@[expose] public section

/-! # Index arithmetic the reductions need

A reduction over one axis reads its operand at the result's index with the reduced coordinate put back; here are those
indices at the ranks and axes used. -/

namespace Mixture

open Idealize.ShloMosaic Idealize.ShloMosaic.ValueIdx

/-- Putting the last coordinate of a matrix back. -/
theorem lift_last2 {R C : ℕ} (h : (⟨2, ![R, C]⟩ : Shape).Reduces [1] ⟨1, ![R]⟩) (r : Fin R) (k : Fin C) :
    h.lift (ix1 r) k = ix2 r k := funext fun a => match a with
  | ⟨0, _⟩ => Fin.ext (h.lift_val (ix1 r) k ⟨0, _⟩)
  | ⟨1, _⟩ => Fin.ext (h.lift_val (ix1 r) k ⟨1, _⟩)

/-- Putting the first coordinate of a matrix back. -/
theorem lift_first2 {R C : ℕ} (h : (⟨2, ![R, C]⟩ : Shape).Reduces [0] ⟨1, ![C]⟩) (c : Fin C) (k : Fin R) :
    h.lift (ix1 c) k = ix2 k c := funext fun a => match a with
  | ⟨0, _⟩ => Fin.ext (h.lift_val (ix1 c) k ⟨0, _⟩)
  | ⟨1, _⟩ => Fin.ext (h.lift_val (ix1 c) k ⟨1, _⟩)

/-- Putting the last coordinate of a rank-3 array back. -/
theorem lift_last3 {A B C : ℕ} (h : (⟨3, ![A, B, C]⟩ : Shape).Reduces [2] ⟨2, ![A, B]⟩) (p : Fin A) (q : Fin B) (k : Fin C) :
    h.lift (ix2 p q) k = ix3 p q k := funext fun a => match a with
  | ⟨0, _⟩ => Fin.ext (h.lift_val (ix2 p q) k ⟨0, _⟩)
  | ⟨1, _⟩ => Fin.ext (h.lift_val (ix2 p q) k ⟨1, _⟩)
  | ⟨2, _⟩ => Fin.ext (h.lift_val (ix2 p q) k ⟨2, _⟩)

/-- Two functions of a matrix index agree at an index whose coordinates are named. -/
theorem at2 {α : Type} {A B : ℕ} (f : (⟨2, ![A, B]⟩ : Shape).Idx → α) (i : (⟨2, ![A, B]⟩ : Shape).Idx) (a : Fin A) (b : Fin B)
    (h0 : i 0 = a) (h1 : i 1 = b) : f i = f (ix2 a b) :=
  congrArg f (funext fun d => match d with | ⟨0, _⟩ => h0 | ⟨1, _⟩ => h1)

/-- A function of three coordinates at an index, at the coordinates. -/
theorem at3 {α : Type} {A B C : ℕ} (f : (⟨3, ![A, B, C]⟩ : Shape).Idx → α) (i : (⟨3, ![A, B, C]⟩ : Shape).Idx) (a : Fin A) (b : Fin B)
    (d : Fin C) (h0 : i 0 = a) (h1 : i 1 = b) (h2 : i 2 = d) : f i = f (ix3 a b d) :=
  congrArg f (funext fun e => match e with | ⟨0, _⟩ => h0 | ⟨1, _⟩ => h1 | ⟨2, _⟩ => h2)

end Mixture

end
-- ==== Proof.Constants.lean ====
/- The extended reals that the programs' constant words encode. -/
module

public import Idealize.ShloMosaic.PureOps.Ideal.Laws
public import Idealize.ShloMosaic.Lib.IdealHost

@[expose] public section

noncomputable section

namespace Mixture

open Idealize.ShloMosaic

/-- The word of all exponent bits and the sign is `-∞`. -/
theorem word_bot : (FloatOps.ofBits (F := Ideal) .f32 0xFF800000#32 : EReal) = ⊥ := by
  show Ideal.ofBits .f32 0xFF800000#32 = ⊥
  simp [Ideal.ofBits, Ideal.ieee]

/-- The word of all exponent bits is `+∞`. -/
theorem word_top : (FloatOps.ofBits (F := Ideal) .f32 0x7F800000#32 : EReal) = ⊤ := by
  show Ideal.ofBits .f32 0x7F800000#32 = ⊤
  simp [Ideal.ofBits, Ideal.ieee]

/-- The word of one. -/
theorem word_one : (FloatOps.ofBits (F := Ideal) .f32 0x3F800000#32 : EReal) = 1 := Ideal.ofBits_one_f32

/-- The word of zero. -/
theorem word_zero : (FloatOps.ofBits (F := Ideal) .f32 0x00000000#32 : EReal) = 0 := Ideal.ofBits_zero_f32

end Mixture

end
-- ==== Proof.Rows.lean ====
/- Reading the kernel's row operations entry by entry: a per-row value spread over the columns, a row's maximum, the
   smallest of some small words, and a count carried as a sum of zeros and ones. -/
module

public import proofs.«01_k».proof.Proof.Indices
public import proofs.«01_k».proof.Proof.Constants
public import Idealize.ShloMosaic.Lib.WordCmp
public import Idealize.ShloMosaic.Lib.MatmulPlain

@[expose] public section

noncomputable section

namespace Mixture

open Idealize.ShloMosaic Idealize.ShloMosaic.ValueIdx

/-- A vector with one value per row, made a column and spread over the columns, has row `r`'s value at `(r, c)`. -/
theorem spread_apply {α : Type} {R C : ℕ} (v : (⟨1, ![R]⟩ : Shape).Idx → α)
    (hs : (⟨1, ![R]⟩ : Shape).ShapeCasts ⟨2, ![R, 1]⟩) (hb : (⟨2, ![R, 1]⟩ : Shape).Broadcasts ⟨2, ![R, C]⟩) (r : Fin R) (c : Fin C) :
    broadcastTo ⟨2, ![R, C]⟩ (shapeCast ⟨2, ![R, 1]⟩ v hs) hb (ix2 r c) = v (ix1 r) := by
  rw [broadcastTo_apply _ hb (ix2 r c) (ix2 r 0) (fun a => match a with
    | ⟨0, _⟩ => by
      show r.val = if R = 1 then 0 else r.val
      have := r.isLt
      split <;> omega
    | ⟨1, _⟩ => rfl)]
  exact shapeCast_apply v hs (ix2 r 0) (ix1 r) (by
    rw [Shape.rowMajor_val_one, Shape.rowMajor_val_two]; show r.val = r.val * 1 + 0; omega)

/-- A single row spread over the rows has its own entry in every row. -/
theorem spread_row_apply {α : Type} {R C : ℕ} (v : (⟨2, ![1, C]⟩ : Shape).Idx → α)
    (hb : (⟨2, ![1, C]⟩ : Shape).Broadcasts ⟨2, ![R, C]⟩) (r : Fin R) (c : Fin C) :
    broadcastTo ⟨2, ![R, C]⟩ v hb (ix2 r c) = v (ix2 0 c) :=
  broadcastTo_apply v hb (ix2 r c) (ix2 0 c) (fun a => match a with
    | ⟨0, _⟩ => rfl
    | ⟨1, _⟩ => by
      show c.val = if C = 1 then 0 else c.val
      have := c.isLt
      split <;> omega)

/-- Columns cut out of a matrix, from column `o` on. -/
theorem columns_apply {α : Type} {R C K : ℕ} (o : ℕ) (x : (⟨2, ![R, C]⟩ : Shape).Idx → α)
    (h : (⟨2, ![R, C]⟩ : Shape).Slices ![0, o] ⟨2, ![R, K]⟩) (r : Fin R) (k : Fin K) (j : Fin C) (hj : j.val = o + k.val) :
    extractStridedSlice ⟨2, ![R, K]⟩ ![0, o] x h (ix2 r k) = x (ix2 r j) :=
  extractStridedSlice_apply _ x h (ix2 r k) (ix2 r j) (fun a => match a with
    | ⟨0, _⟩ => (Nat.zero_add r.val).symm
    | ⟨1, _⟩ => hj)

/-- A row's maximum, taken from minus infinity. -/
theorem rowMax_apply {R C : ℕ} (x : FVec Ideal ⟨2, ![R, C]⟩ .f32) (h : (⟨2, ![R, C]⟩ : Shape).Reduces [1] ⟨1, ![R]⟩) (hφ : FKind.Formats .f32)
    (hacc : (0xFF800000#32 : BitVec 32) = FKind.maximumf.neutral .f32 hφ) (r : Fin R) :
    multiReduction .maximumf [1] ⟨1, ![R]⟩ x 0xFF800000#32 h hφ hacc (ix1 r) = top fun c : Fin C => x (ix2 r c) := by
  rw [Ideal.multiReduction_maximumf_single]
  unfold top
  exact congrArg₂ (fun i (f : Fin C → EReal) => (Finset.univ : Finset (Fin C)).fold max i f) word_bot
    (funext fun k => congrArg x (lift_last2 h r k))

/-- A row's sum. -/
theorem rowSum_apply {R C : ℕ} (x : FVec Ideal ⟨2, ![R, C]⟩ .f32) (h : (⟨2, ![R, C]⟩ : Shape).Reduces [1] ⟨1, ![R]⟩) (hφ : FKind.Formats .f32)
    (hacc : (0x00000000#32 : BitVec 32) = FKind.add.neutral .f32 hφ) (r : Fin R) :
    multiReduction .add [1] ⟨1, ![R]⟩ x 0x00000000#32 h hφ hacc (ix1 r) = ∑ c : Fin C, x (ix2 r c) := by
  rw [Ideal.multiReduction_add_single]
  exact Finset.sum_congr rfl fun k _ => congrArg x (lift_last2 h r k)

/-- A column's sum. -/
theorem colSum_apply {R C : ℕ} (x : FVec Ideal ⟨2, ![R, C]⟩ .f32) (h : (⟨2, ![R, C]⟩ : Shape).Reduces [0] ⟨1, ![C]⟩) (hφ : FKind.Formats .f32)
    (hacc : (0x00000000#32 : BitVec 32) = FKind.add.neutral .f32 hφ) (c : Fin C) :
    multiReduction .add [0] ⟨1, ![C]⟩ x 0x00000000#32 h hφ hacc (ix1 c) = ∑ r : Fin R, x (ix2 r c) := by
  rw [Ideal.multiReduction_add_single]
  exact Finset.sum_congr rfl fun k _ => congrArg x (lift_first2 h c k)

/-- A row's smallest word. -/
theorem rowMin_apply {R C : ℕ} (x : IVec ⟨2, ![R, C]⟩ 32) (h : (⟨2, ![R, C]⟩ : Shape).Reduces [1] ⟨1, ![R]⟩)
    (hacc : 2147483647#32 = IKind.minsi.neutral) (r : Fin R) :
    multiReductionI .minsi [1] ⟨1, ![R]⟩ x 2147483647#32 h hacc (ix1 r)
      = (Finset.univ : Finset (Fin C)).fold IntOp.minsi 2147483647#32 fun c => x (ix2 r c) := by
  classical
  rw [multiReductionI_eq_fold]
  refine (h.fold_filter_drop_single IKind.minsi.op 2147483647#32 x (ix1 r)).trans ?_
  exact congrArg (fun f : Fin C → BitVec 32 => (Finset.univ : Finset (Fin C)).fold IntOp.minsi 2147483647#32 f)
    (funext fun k => congrArg x (lift_last2 h r k))

/-- The smaller of two small words, read signed, is the word of the smaller number. -/
theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  rw [BitVec.slt, WordCmp.toInt_ofNat_of_lt (w := 32) ha, WordCmp.toInt_ofNat_of_lt (w := 32) hb]
  by_cases h : a < b
  · rw [if_pos (by simpa using h), min_eq_left h.le]
  · rw [if_neg (by simpa using h), min_eq_right (not_lt.1 h)]

/-- The smallest of some small words is the word of the smallest number. -/
theorem fold_minsi {ι : Type} (p : ι → ℕ) (hp : ∀ k, p k < 2 ^ 31) (S : Finset ι) :
    S.fold IntOp.minsi 2147483647#32 (fun k => BitVec.ofNat 32 (p k)) = BitVec.ofNat 32 (S.fold min 2147483647 p)
      ∧ S.fold min 2147483647 p < 2 ^ 31 := by
  classical
  induction S using Finset.induction_on with
  | empty => exact ⟨rfl, by rw [Finset.fold_empty]; norm_num⟩
  | insert a S ha ih =>
    rw [Finset.fold_insert ha, Finset.fold_insert ha, ih.1]
    exact ⟨minsi_ofNat _ _ (hp a) ih.2, lt_of_le_of_lt (min_le_left _ _) (hp a)⟩

/-- The smallest position holding the greatest value — every other position counted as 8 — is the first greatest position. -/
theorem first_word (g : Fin 8 → EReal) :
    (Finset.univ : Finset (Fin 8)).fold IntOp.minsi 2147483647#32
        (fun k => if g k = top g then BitVec.ofNat 32 k.val else 8#32) = BitVec.ofNat 32 (first g).val := by
  have hs := first_selects g
  have e : (fun k : Fin 8 => if g k = top g then BitVec.ofNat 32 k.val else 8#32)
      = fun k => BitVec.ofNat 32 (if g k = top g then k.val else 8) := funext fun k => by split <;> rfl
  rw [e, (fold_minsi _ (fun k => by split <;> omega) _).1]
  congr 1
  refine le_antisymm (Finset.fold_min_le _ |>.2 (Or.inr ⟨first g, Finset.mem_univ _, by rw [if_pos hs.top_eq.symm]⟩))
    ((Finset.le_fold_min _).2 ⟨by have := (first g).isLt; omega, fun k _ => ?_⟩)
  split
  · rename_i hk
    by_contra hlt
    have := hs.2 k (not_le.1 hlt)
    rw [hk, hs.top_eq] at this
    exact lt_irrefl _ this
  · exact (first g).isLt.le

/-- A sum of an indicator of one position against anything is the value there. -/
theorem indicator_sum {N : ℕ} (f : Fin N → EReal) (p : Fin N) : ∑ k, (if p = k then (1 : EReal) else 0) * f k = f p := by
  rw [Finset.sum_eq_single p (fun k _ hk => by rw [if_neg (Ne.symm hk), zero_mul]) (fun h => absurd (Finset.mem_univ p) h),
    if_pos rfl, one_mul]

/-- A sum of zeros and ones is the number of ones. -/
theorem sum_ones {N : ℕ} (P : Fin N → Prop) [DecidablePred P] :
    ∑ k, (if P k then (1 : EReal) else 0) = (((Finset.univ.filter P).card : ℝ) : EReal) := by
  rw [Finset.sum_ite, Finset.sum_const_zero, add_zero, Finset.sum_const, nsmul_one]
  rfl

/-- Converting a small count to a word is exact. -/
theorem fptosi_count (k : ℕ) (hk : k < 2 ^ 31) : Ideal.fptosi 32 ((k : ℝ) : EReal) = BitVec.ofNat 32 k := by
  unfold Ideal.fptosi
  rw [Ideal.toIntClamped_coe, if_pos (Nat.cast_nonneg k), Int.floor_natCast, min_eq_right (by push_cast; omega),
    max_eq_right (by push_cast; omega)]
  exact BitVec.ofInt_natCast 32 k

end Mixture

end
-- ==== Proof.Block.lean ====
/- What the kernel computes from one block of rows: all logits in one product, the selected expert as a 0/1 row, the selected
   expert's logits cut out by two products with 0/1 matrices, their softmax, and the block's counts. -/
module

public import proofs.«01_k».proof.Proof.Rows
public import proofs.«01_k».proof.Proof.Gen.KernelIdeal.Skeleton

@[expose] public section

noncomputable section

namespace Mixture.Block

open Idealize.ShloMosaic Idealize.ShloMosaic.ValueIdx Cert.KernelIdeal Cert.KernelIdeal.Gen

variable (x : Vec Ideal S2048x768 .f32) (W : Vec Ideal S768x88 .f32) (B : Vec Ideal S1x88 .f32)

/-- The logit in column `j` of the block's row `r`. -/
def raw (r : Fin 2048) (j : Fin 88) : EReal := (∑ d : Fin 768, x (ix2 r d) * W (ix2 d j)) + B (ix2 0 j)

/-- Column `n` of the gate's part. -/
def gcol (n : Fin 8) : Fin 88 := ⟨80 + n.val, by omega⟩

/-- Column `c` of expert `n`'s part. -/
def ecol (n : Fin 8) (c : Fin 10) : Fin 88 := ⟨10 * n.val + c.val, by omega⟩

/-- The expert row `r` selects. -/
def sel (r : Fin 2048) : Fin 8 := first fun n => raw x W B r (gcol n)

/-- The block's product is the logits. -/
theorem logits_apply (r : Fin 2048) (j : Fin 88) : k0_pay4 (F := Ideal) x W B (ix2 r j) = raw x W B r j := by
  unfold k0_pay4 raw
  refine congrArg₂ (fun p q : EReal => p + q) ?_ ?_
  · refine (Ideal.matmul_plain_apply none x _ _ r j).trans ?_
    rw [shapeCast_self]
    exact (congrArg (fun t : EReal => t + ∑ d : Fin 768, x (ix2 r d) * W (ix2 d j)) word_zero).trans (zero_add _)
  · rw [spread_row_apply, shapeCast_self]

/-- The 0/1 row the kernel forms marks the selected expert. -/
theorem mark_apply (r : Fin 2048) (n : Fin 8) :
    k0_pay5 (F := Ideal) x W B (ix2 r n) = if sel x W B r = n then (1 : EReal) else 0 := by
  have hg : ∀ k : Fin 8, extractStridedSlice S2048x8 ![0, 80] (k0_pay4 (F := Ideal) x W B) slices_S2048x88_o0_80_S2048x8 (ix2 r k)
      = raw x W B r (gcol k) := fun k =>
    (columns_apply 80 _ _ r k (gcol k) rfl).trans (logits_apply x W B r _)
  unfold k0_pay5
  dsimp only
  generalize extractStridedSlice S2048x8 ![0, 80] (k0_pay4 (F := Ideal) x W B) slices_S2048x88_o0_80_S2048x8 = g at hg ⊢
  have hmax : ∀ k : Fin 8, broadcastTo S2048x8 (shapeCast S2048x1 (multiReduction .maximumf [1] S2048 g 0xFF800000#32
      reduces_S2048x8_S2048 (.inl rfl) rfl) shapeCasts_S2048_S2048x1) broadcasts_S2048x1_S2048x8 (ix2 r k)
      = top fun n => raw x W B r (gcol n) := fun k => by
    rw [spread_apply]
    exact (rowMax_apply g _ _ _ r).trans (congrArg top (funext hg))
  generalize broadcastTo S2048x8 (shapeCast S2048x1 (multiReduction .maximumf [1] S2048 g 0xFF800000#32
      reduces_S2048x8_S2048 (.inl rfl) rfl) shapeCasts_S2048_S2048x1) broadcasts_S2048x1_S2048x8 = mx at hmax ⊢
  have hio : ∀ k : Fin 8, iota .tc S2048x8 32 [1] iota_S2048x8_d1_w32 (ix2 r k) = BitVec.ofNat 32 k.val := fun k =>
    iota_single_apply .tc S2048x8 32 1 _ (ix2 r k)
  generalize iota .tc S2048x8 32 [1] iota_S2048x8_d1_w32 = io at hio ⊢
  have hpos : ∀ k : Fin 8, select (cmpf .oeq g mx) io (broadcast S2048x8 8#32) (ix2 r k)
      = if raw x W B r (gcol k) = top (fun n => raw x W B r (gcol n)) then BitVec.ofNat 32 k.val else 8#32 := fun k => by
    show Scalar.select (Ideal.cmp .oeq (g (ix2 r k)) (mx (ix2 r k))) (io (ix2 r k)) 8#32 = _
    rw [hg, hmax, hio]
    by_cases h : raw x W B r (gcol k) = top (fun n => raw x W B r (gcol n))
    · rw [if_pos h]
      exact (congrArg (fun b => Scalar.select (BitVec.ofBool b) (BitVec.ofNat 32 k.val) 8#32) (decide_eq_true h)).trans (select_one _ _)
    · rw [if_neg h]
      exact (congrArg (fun b => Scalar.select (BitVec.ofBool b) (BitVec.ofNat 32 k.val) 8#32) (decide_eq_false h)).trans (select_zero _ _)
  generalize select (cmpf .oeq g mx) io (broadcast S2048x8 8#32) = ps at hpos ⊢
  have hmin : broadcastTo S2048x8 (shapeCast S2048x1 (multiReductionI .minsi [1] S2048 ps 2147483647#32 reduces_S2048x8_S2048 rfl)
      shapeCasts_S2048_S2048x1) broadcasts_S2048x1_S2048x8 (ix2 r n) = BitVec.ofNat 32 (sel x W B r).val := by
    rw [spread_apply]
    refine (rowMin_apply ps _ _ r).trans ?_
    exact (congrArg (fun f : Fin 8 → BitVec 32 => (Finset.univ : Finset (Fin 8)).fold IntOp.minsi 2147483647#32 f) (funext hpos)).trans
      (first_word _)
  generalize broadcastTo S2048x8 (shapeCast S2048x1 (multiReductionI .minsi [1] S2048 ps 2147483647#32 reduces_S2048x8_S2048 rfl)
      shapeCasts_S2048_S2048x1) broadcasts_S2048x1_S2048x8 = mn at hmin ⊢
  show Scalar.select (IntOp.cmpi .eq (io (ix2 r n)) (mn (ix2 r n))) (FloatOps.ofBits (F := Ideal) .f32 0x3F800000#32)
    (FloatOps.ofBits (F := Ideal) .f32 0x00000000#32) = _
  rw [hio, hmin, word_one, word_zero]
  have hn : n.val < 2 ^ 32 := lt_trans n.isLt (by norm_num)
  have hp : (sel x W B r).val < 2 ^ 32 := lt_trans (sel x W B r).isLt (by norm_num)
  by_cases h : sel x W B r = n
  · rw [if_pos h, (WordCmp.cmpi_eq_ofNat_eq_one_iff hn hp).2 (congrArg Fin.val h.symm), select_one]
  · rw [if_neg h, eq_zero_of_ne_one (fun e => h (Fin.ext ((WordCmp.cmpi_eq_ofNat_eq_one_iff hn hp).1 e).symm)), select_zero]

variable (E : FVec Ideal S8x80 .f32) (G : FVec Ideal S80x10 .f32)

/-- With the two 0/1 matrices — expert `n` owns columns `10 n … 10 n + 9`, and column `j` belongs to class `j mod 10` — the two
    products cut out the logits of the marked expert. -/
theorem cut_apply (L : FVec Ideal S2048x88 .f32) (M : FVec Ideal S2048x8 .f32)
    (hE : ∀ (n : Fin 8) (j : Fin 80), E (ix2 n j) = if j.val / 10 = n.val then (1 : EReal) else 0)
    (hG : ∀ (j : Fin 80) (c : Fin 10), G (ix2 j c) = if j.val % 10 = c.val then (1 : EReal) else 0)
    (r : Fin 2048) (p : Fin 8) (hM : ∀ n, M (ix2 r n) = if p = n then (1 : EReal) else 0) (c : Fin 10) :
    k0_pay14 (F := Ideal) L M E G (ix2 r c) = L (ix2 r (ecol p c)) := by
  unfold k0_pay14
  rw [shapeCast_self, shapeCast_self]
  have hm : ∀ j : Fin 80, matmul dot_S2048x8_S8x80_S2048x80_1_0_0_1_n_n (some .fp32) M E
      (constant (F := Ideal) S2048x80 .f32 0x00000000#32) (ix2 r j) = if j.val / 10 = p.val then (1 : EReal) else 0 := fun j => by
    refine (Ideal.matmul_plain_apply (some .fp32) M E _ r j).trans ?_
    refine (congrArg₂ (fun s t : EReal => s + t) word_zero (Finset.sum_congr rfl fun n _ =>
      congrArg (fun t : EReal => t * E (ix2 n j)) (hM n))).trans ?_
    rw [zero_add, indicator_sum, hE]
  generalize matmul dot_S2048x8_S8x80_S2048x80_1_0_0_1_n_n (some .fp32) M E
      (constant (F := Ideal) S2048x80 .f32 0x00000000#32) = mk at hm ⊢
  refine (Ideal.matmul_plain_apply (some .fp32) _ G _ r c).trans ?_
  refine (congrArg (fun t : EReal => t + _) word_zero).trans ((zero_add _).trans ?_)
  have hterm : ∀ j : Fin 80, mulf (extractStridedSlice S2048x80 ![0, 0] L slices_S2048x88_o0_0_S2048x80) mk (ix2 r j) * G (ix2 j c)
      = if j.val = 10 * p.val + c.val then L (ix2 r (ecol p c)) else 0 := fun j => by
    have hj := j.isLt
    have hc := c.isLt
    show (extractStridedSlice S2048x80 ![0, 0] L slices_S2048x88_o0_0_S2048x80 (ix2 r j) * mk (ix2 r j) : EReal) * G (ix2 j c) = _
    rw [hm, hG, columns_apply 0 L _ r j ⟨j.val, by omega⟩ (Nat.zero_add _).symm]
    by_cases h : j.val = 10 * p.val + c.val
    · rw [if_pos h, if_pos (by omega), if_pos (by omega), mul_one, mul_one]
      exact congrArg (fun k : Fin 88 => L (ix2 r k)) (Fin.ext h)
    · rw [if_neg h]
      by_cases h1 : j.val / 10 = p.val
      · rw [if_neg (by omega : ¬j.val % 10 = c.val), mul_zero]
      · rw [if_neg h1, mul_zero, zero_mul]
  refine (Finset.sum_congr rfl fun j _ => hterm j).trans ?_
  have hpc : 10 * p.val + c.val < 80 := by have := p.isLt; have := c.isLt; omega
  rw [Finset.sum_eq_single (⟨10 * p.val + c.val, hpc⟩ : Fin 80)
    (fun j _ hj => if_neg fun h => hj (Fin.ext h)) (fun h => absurd (Finset.mem_univ _) h), if_pos rfl]

/-- The kernel's normalised exponentials are the softmax of the cut-out logits. -/
theorem softmax_apply (L : FVec Ideal S2048x88 .f32) (M : FVec Ideal S2048x8 .f32)
    (hE : ∀ (n : Fin 8) (j : Fin 80), E (ix2 n j) = if j.val / 10 = n.val then (1 : EReal) else 0)
    (hG : ∀ (j : Fin 80) (c : Fin 10), G (ix2 j c) = if j.val % 10 = c.val then (1 : EReal) else 0)
    (r : Fin 2048) (p : Fin 8) (hM : ∀ n, M (ix2 r n) = if p = n then (1 : EReal) else 0) (c : Fin 10) :
    k0_pay1 (F := Ideal) (k0_pay14 (F := Ideal) L M E G) (k0_pay15 (F := Ideal) L M E G) (ix2 r c)
      = softmax (fun c => L (ix2 r (ecol p c))) c := by
  have hcut := cut_apply E G L M hE hG r p hM
  unfold k0_pay1 k0_pay15
  dsimp only
  generalize k0_pay14 (F := Ideal) L M E G = v at hcut ⊢
  have hmax : ∀ k : Fin 10, broadcastTo S2048x10 (shapeCast S2048x1 (maximumf (broadcast S2048 (Scalar.ofBits (F := Ideal) .f32 0xFF800000#32))
      (multiReduction .maximumf [1] S2048 v 0xFF800000#32 reduces_S2048x10_S2048 (.inl rfl) rfl)) shapeCasts_S2048_S2048x1)
      broadcasts_S2048x1_S2048x10 (ix2 r k) = top fun c => L (ix2 r (ecol p c)) := fun k => by
    rw [spread_apply]
    refine (congrArg₂ (fun s t : EReal => max s t) word_bot (rowMax_apply v _ _ _ r)).trans ((max_bot_top _).trans ?_)
    exact congrArg top (funext hcut)
  generalize broadcastTo S2048x10 (shapeCast S2048x1 (maximumf (broadcast S2048 (Scalar.ofBits (F := Ideal) .f32 0xFF800000#32))
      (multiReduction .maximumf [1] S2048 v 0xFF800000#32 reduces_S2048x10_S2048 (.inl rfl) rfl)) shapeCasts_S2048_S2048x1)
      broadcasts_S2048x1_S2048x10 = mx at hmax ⊢
  have hexp : ∀ k : Fin 10, exp (subf v mx) (ix2 r k)
      = Ideal.exp (L (ix2 r (ecol p k)) - top fun c => L (ix2 r (ecol p c))) := fun k => by
    show Ideal.exp ((v (ix2 r k) : EReal) - mx (ix2 r k)) = _
    rw [hcut, hmax]
  generalize exp (subf v mx) = e at hexp ⊢
  show Ideal.div (e (ix2 r c)) (broadcastTo S2048x10 (shapeCast S2048x1 (multiReduction .add [1] S2048 e 0x00000000#32
    reduces_S2048x10_S2048 (.inl rfl) rfl) shapeCasts_S2048_S2048x1) broadcasts_S2048x1_S2048x10 (ix2 r c)) = _
  rw [spread_apply, hexp]
  unfold softmax
  exact congrArg (Ideal.div _) ((rowSum_apply e _ _ _ r).trans (Finset.sum_congr rfl fun k _ => hexp k))

/-- The block's counts: how many of its rows the 0/1 rows mark with expert `n`. -/
theorem count_apply (M : FVec Ideal S2048x8 .f32) (q : Fin 2048 → Fin 8)
    (hM : ∀ r n, M (ix2 r n) = if q r = n then (1 : EReal) else 0) (n : Fin 8) :
    k0_pay2 (F := Ideal) M (ix2 0 n) = BitVec.ofNat 32 (Finset.univ.filter fun r => q r = n).card := by
  unfold k0_pay2
  dsimp only
  show Ideal.fptosi 32 (shapeCast S1x8 (multiReduction .add [0] S8 M 0x00000000#32 reduces_S2048x8_S8 (.inl rfl) rfl)
    shapeCasts_S8_S1x8 (ix2 0 n)) = _
  rw [shapeCast_apply _ _ (ix2 0 n) (ix1 n) (by rw [Shape.rowMajor_val_one, Shape.rowMajor_val_two]; show n.val = 0 * 8 + n.val; omega)]
  refine (congrArg (Ideal.fptosi 32) ((colSum_apply M _ _ _ n).trans
    ((Finset.sum_congr rfl fun r _ => hM r n).trans (sum_ones _)))).trans ?_
  refine fptosi_count _ (lt_of_le_of_lt (Finset.card_filter_le _ _) ?_)
  rw [Finset.card_univ, Fintype.card_fin]
  norm_num

/-- Adding the block's counts to the counts so far. -/
theorem add_apply (M : FVec Ideal S2048x8 .f32) (acc : Vec Ideal S1x8 .i32) (n : Fin 8) :
    k0_pay3 (F := Ideal) M acc (ix2 0 n) = IntOp.addi (acc (ix2 0 n)) (k0_pay2 (F := Ideal) M (ix2 0 n)) := by
  unfold k0_pay3
  rw [shapeCast_self]
  rfl

end Mixture.Block

end
-- ==== Proof.Operands.lean ====
/- The four operands the host prepares for the kernel, entry by entry: the experts' weights laid side by side with the gate's,
   the biases likewise, and the two 0/1 matrices telling which expert owns a column and which class a column belongs to. -/
module

public import proofs.«01_k».proof.Proof.Rows
public import proofs.«01_k».proof.Proof.Gen.KernelIdeal.Frame
public import Idealize.ShloMosaic.Lib.StableHlo.ReadAt
public import Idealize.ShloMosaic.Lib.Tactic

@[expose] public section

noncomputable section

namespace Mixture.Operands

open Idealize.ShloMosaic hiding ix1 ix2 ix3
open Idealize.ShloMosaic.ValueIdx Idealize.ShloMosaic.TcCoe Cert.KernelIdeal Cert.KernelIdeal.Gen

section Any

variable {F : FTy → Type} [FloatOps F] (m : (ℓ : Loc nD τ sig) → Buf (Elt F) ℓ) (c : Dev nD)

/-- The weight operand as the host's term. -/
theorem weights_term : (V m c main_v2 : Vec F S768x88 .f32) = concatenate S768x88 1
    [⟨S768x80, shapeCast S768x80 (transpose S768x8x10 [1, 0, 2] (m ((c : Thread nD τ).loc main_arg1) : Vec F S8x768x10 .f32)
      transposes_S8x768x10_S768x8x10_1_0_2) shapeCasts_S768x8x10_S768x80⟩,
     ⟨S768x8, (m ((c : Thread nD τ).loc main_arg3) : Vec F S768x8 .f32)⟩] concatenates_S768x80_S768x8_S768x88_d1 := by
  unfold V
  after_reads_simp
  rfl

/-- The bias operand as the host's term. -/
theorem biases_term : (V m c main_v5 : Vec F S1x88 .f32) = concatenate S1x88 1
    [⟨S1x80, shapeCast S1x80 (m ((c : Thread nD τ).loc main_arg2) : Vec F S8x10 .f32) shapeCasts_S8x10_S1x80⟩,
     ⟨S1x8, shapeCast S1x8 (m ((c : Thread nD τ).loc main_arg4) : Vec F S8 .f32) shapeCasts_S8_S1x8⟩]
    concatenates_S1x80_S1x8_S1x88_d1 := by
  unfold V
  after_reads_simp
  rfl

/-- Column `10 n + k` of the weight operand is expert `n`'s column `k`. -/
theorem weights_expert (d : Fin 768) (n : Fin 8) (k : Fin 10) (j : Fin 88) (hj : j.val = 10 * n.val + k.val) :
    (V m c main_v2 : Vec F S768x88 .f32) (ix2 d j) = (m ((c : Thread nD τ).loc main_arg1) : Vec F S8x768x10 .f32) (ix3 n d k) := by
  rw [weights_term]
  have hn := n.isLt
  have hk := k.isLt
  refine (concatenate_pair_apply_left (s₁ := S768x80) (s₂ := S768x8) 1 _ _ _ (ix2 d j) rfl (ix2 d ⟨10 * n.val + k.val, by omega⟩)
    (fun a => match a with | ⟨0, _⟩ => rfl | ⟨1, _⟩ => hj.symm)).trans ?_
  refine (shapeCast_apply _ _ _ (ix3 d n k) ?_).trans ?_
  · rw [Shape.rowMajor_val_two, Shape.rowMajor_val_three]
    show (d.val * 8 + n.val) * 10 + k.val = d.val * 80 + (10 * n.val + k.val)
    omega
  · exact transpose_apply _ _ _ _ (ix3 n d k) (fun a => match a with | ⟨0, _⟩ => rfl | ⟨1, _⟩ => rfl | ⟨2, _⟩ => rfl)

/-- Column `80 + n` of the weight operand is the gate's column `n`. -/
theorem weights_gate (d : Fin 768) (n : Fin 8) (j : Fin 88) (hj : j.val = 80 + n.val) :
    (V m c main_v2 : Vec F S768x88 .f32) (ix2 d j) = (m ((c : Thread nD τ).loc main_arg3) : Vec F S768x8 .f32) (ix2 d n) := by
  rw [weights_term]
  exact concatenate_pair_apply_right (s₁ := S768x80) (s₂ := S768x8) 1 _ _ _ (ix2 d j) rfl rfl (ix2 d n)
    (fun a ha => match a with | ⟨0, _⟩ => rfl | ⟨1, _⟩ => absurd rfl ha) (by show n.val + 80 = j.val; omega)

/-- Entry `10 n + k` of the bias operand is expert `n`'s entry `k`. -/
theorem biases_expert (n : Fin 8) (k : Fin 10) (j : Fin 88) (hj : j.val = 10 * n.val + k.val) :
    (V m c main_v5 : Vec F S1x88 .f32) (ix2 0 j) = (m ((c : Thread nD τ).loc main_arg2) : Vec F S8x10 .f32) (ix2 n k) := by
  rw [biases_term]
  have hn := n.isLt
  have hk := k.isLt
  refine (concatenate_pair_apply_left (s₁ := S1x80) (s₂ := S1x8) 1 _ _ _ (ix2 0 j) rfl (ix2 0 ⟨10 * n.val + k.val, by omega⟩)
    (fun a => match a with | ⟨0, _⟩ => rfl | ⟨1, _⟩ => hj.symm)).trans ?_
  refine shapeCast_apply _ _ _ (ix2 n k) ?_
  rw [Shape.rowMajor_val_two, Shape.rowMajor_val_two]
  show n.val * 10 + k.val = 0 * 80 + (10 * n.val + k.val)
  omega

/-- Entry `80 + n` of the bias operand is the gate's entry `n`. -/
theorem biases_gate (n : Fin 8) (j : Fin 88) (hj : j.val = 80 + n.val) :
    (V m c main_v5 : Vec F S1x88 .f32) (ix2 0 j) = (m ((c : Thread nD τ).loc main_arg4) : Vec F S8 .f32) (ix1 n) := by
  rw [biases_term]
  refine (concatenate_pair_apply_right (s₁ := S1x80) (s₂ := S1x8) 1 _ _ _ (ix2 0 j) rfl rfl (ix2 0 n)
    (fun a ha => match a with | ⟨0, _⟩ => rfl | ⟨1, _⟩ => absurd rfl ha) (by show n.val + 80 = j.val; omega)).trans ?_
  refine shapeCast_apply _ _ _ (ix1 n) ?_
  rw [Shape.rowMajor_val_one, Shape.rowMajor_val_two]
  show n.val = 0 * 8 + n.val
  omega

end Any

/-- The host's floored quotient of a column number by ten. -/
theorem quotient_word : ∀ j : Fin 80,
    Scalar.select (IntOp.andi
        (IntOp.cmpi .ne (if BitVec.ofNat 32 j.val = 0 then (0 : BitVec 32) else if (BitVec.ofNat 32 j.val).msb = true then -1 else 1)
          (if (10#32 : BitVec 32) = 0 then (0 : BitVec 32) else if BitVec.msb (10#32 : BitVec 32) = true then -1 else 1))
        (IntOp.cmpi .ne (IntOp.remsi ArithUnit.host (BitVec.ofNat 32 j.val) 10#32) 0#32))
      (IntOp.subi (IntOp.divsi ArithUnit.host (BitVec.ofNat 32 j.val) 10#32) 1#32)
      (IntOp.divsi ArithUnit.host (BitVec.ofNat 32 j.val) 10#32) = BitVec.ofNat 32 (j.val / 10) := by
  decide

/-- The host's floored remainder of a column number by ten. -/
theorem remainder_word : ∀ j : Fin 80,
    Scalar.select (IntOp.andi
        (IntOp.cmpi .ne
          (IntOp.cmpi .slt (IntOp.remsi ArithUnit.host (BitVec.ofNat 32 j.val)
            (Scalar.select (IntOp.cmpi .eq (10#32 : BitVec 32) 0#32) (1#32) 10#32)) 0#32)
          (IntOp.cmpi .slt (Scalar.select (IntOp.cmpi .eq (10#32 : BitVec 32) 0#32) (1#32) 10#32) 0#32))
        (IntOp.cmpi .ne (IntOp.remsi ArithUnit.host (BitVec.ofNat 32 j.val)
          (Scalar.select (IntOp.cmpi .eq (10#32 : BitVec 32) 0#32) (1#32) 10#32)) 0#32))
      (IntOp.addi (IntOp.remsi ArithUnit.host (BitVec.ofNat 32 j.val)
          (Scalar.select (IntOp.cmpi .eq (10#32 : BitVec 32) 0#32) (1#32) 10#32))
        (Scalar.select (IntOp.cmpi .eq (10#32 : BitVec 32) 0#32) (1#32) 10#32))
      (IntOp.remsi ArithUnit.host (BitVec.ofNat 32 j.val)
        (Scalar.select (IntOp.cmpi .eq (10#32 : BitVec 32) 0#32) (1#32) 10#32)) = BitVec.ofNat 32 (j.val % 10) := by
  decide

/-- The comparison of two small words, made a number, is one where they agree. -/
theorem agree_word (a b : ℕ) (ha : a < 2 ^ 32) (hb : b < 2 ^ 32) :
    FloatOps.uitofp (F := Ideal) .f32 (IntOp.cmpi .eq (BitVec.ofNat 32 a) (BitVec.ofNat 32 b)) = if a = b then (1 : EReal) else 0 := by
  by_cases h : a = b
  · rw [if_pos h, (WordCmp.cmpi_eq_ofNat_eq_one_iff ha hb).2 h]
    show (((1#1 : BitVec 1).toNat : ℝ) : EReal) = 1
    simp
  · rw [if_neg h, eq_zero_of_ne_one (fun e => h ((WordCmp.cmpi_eq_ofNat_eq_one_iff ha hb).1 e))]
    show (((0#1 : BitVec 1).toNat : ℝ) : EReal) = 0
    simp

variable (m : (ℓ : Loc nD τ sig) → Buf (Elt Ideal) ℓ) (c : Dev nD)

/-- The third operand marks the expert a column belongs to. -/
theorem owner_apply (n : Fin 8) (j : Fin 80) :
    (V m c main_v14 : Vec Ideal S8x80 .f32) (ix2 n j) = if j.val / 10 = n.val then (1 : EReal) else 0 := by
  have hj := j.isLt
  have hn := n.isLt
  refine Eq.trans ?_ (agree_word (j.val / 10) n.val (by omega) (by omega))
  rw [← quotient_word j]
  unfold V
  after_reads_at
  rfl

/-- The fourth operand marks the class a column belongs to. -/
theorem class_apply (j : Fin 80) (k : Fin 10) :
    (V m c main_v23 : Vec Ideal S80x10 .f32) (ix2 j k) = if j.val % 10 = k.val then (1 : EReal) else 0 := by
  have hj := j.isLt
  have hk := k.isLt
  refine Eq.trans ?_ (agree_word (j.val % 10) k.val (by omega) (by omega))
  rw [← remainder_word j]
  unfold V
  after_reads_at
  rfl

end Mixture.Operands

end
-- ==== Proof.Windows.lean ====
/- What the kernel's input windows hold at a grid point: the point's 2048 rows of the activations, and the four host operands
   whole. From them, the block's logits are the specification's at the point's rows. -/
module

public import proofs.«01_k».proof.Proof.Block
public import proofs.«01_k».proof.Proof.Operands

@[expose] public section

noncomputable section

namespace Mixture.Windows

open Idealize.ShloMosaic hiding ix1 ix2 ix3
open Idealize.ShloMosaic.ValueIdx Idealize.ShloMosaic.TcCoe Cert.KernelIdeal Cert.KernelIdeal.Gen Mixture.Block

/-- The array row held by row `r` of point `t`'s block. -/
def row (t : Fin cfg0.N) (r : Fin 2048) : Fin 32768 := ⟨2048 * t.val + r.val, by
  have hN : cfg0.N = 16 := N_0
  have ht := t.isLt
  have hr := r.isLt
  omega⟩

section Any

variable {F : FTy → Type} [FloatOps F] (m : (ℓ : Loc nD τ sig) → Buf (Elt F) ℓ) (c : Dev nD)

/-- The activations' block index moves with the point. -/
theorem index_rows (t : Fin cfg0.N) : win0_0.index t 0 = t.val ∧ win0_0.index t 1 = 0 := by
  rcases fin_N0 t with rfl | rfl | rfl | rfl | rfl | rfl | rfl | rfl | rfl | rfl | rfl | rfl | rfl | rfl | rfl | rfl <;> decide

/-- The activations' window holds the point's rows. -/
theorem rows_apply (t : Fin cfg0.N) (r : Fin 2048) (d : Fin 768) :
    (iblk m c 0 t : Vec F S2048x768 .f32) (ix2 r d) = (m ((c : Thread nD τ).loc main_arg0) : Vec F S32768x768 .f32) (ix2 (row t r) d) := by
  have hi := index_rows t
  unfold iblk
  rw [View.read_apply]
  show V m c main_arg0 _ = _
  rw [V_main_arg0]
  congr 1
  funext a
  apply Fin.ext
  match a with
  | ⟨0, _⟩ => show win0_0.index t 0 * 2048 + 1 * r.val = 2048 * t.val + r.val; rw [hi.1]; omega
  | ⟨1, _⟩ => show win0_0.index t 1 * 768 + 1 * d.val = d.val; rw [hi.2]; omega

/-- The weights' window holds the weight operand. -/
theorem weights_whole (t : Fin cfg0.N) : (iblk m c 1 t : Vec F S768x88 .f32) = V m c main_v2 := by
  have hz : (fun a => win0_1.index t a * main_v2.ty.shape.size a) = fun _ => 0 := funext fun a => by fin_cases a <;> rfl
  exact Memref.read_access_unit_zero (Elt F) main_v2 hz (fun a => by rw [congrFun hz a]; simp) _

/-- The biases' window holds the bias operand. -/
theorem biases_whole (t : Fin cfg0.N) : (iblk m c 2 t : Vec F S1x88 .f32) = V m c main_v5 := by
  have hz : (fun a => win0_2.index t a * main_v5.ty.shape.size a) = fun _ => 0 := funext fun a => by fin_cases a <;> rfl
  exact Memref.read_access_unit_zero (Elt F) main_v5 hz (fun a => by rw [congrFun hz a]; simp) _

/-- The owner matrix's window holds it. -/
theorem owner_whole (t : Fin cfg0.N) : (iblk m c 3 t : Vec F S8x80 .f32) = V m c main_v14 := by
  have hz : (fun a => win0_3.index t a * main_v14.ty.shape.size a) = fun _ => 0 := funext fun a => by fin_cases a <;> rfl
  exact Memref.read_access_unit_zero (Elt F) main_v14 hz (fun a => by rw [congrFun hz a]; simp) _

/-- The class matrix's window holds it. -/
theorem class_whole (t : Fin cfg0.N) : (iblk m c 4 t : Vec F S80x10 .f32) = V m c main_v23 := by
  have hz : (fun a => win0_4.index t a * main_v23.ty.shape.size a) = fun _ => 0 := funext fun a => by fin_cases a <;> rfl
  exact Memref.read_access_unit_zero (Elt F) main_v23 hz (fun a => by rw [congrFun hz a]; simp) _

end Any

variable (m : (ℓ : Loc nD τ sig) → Buf (Elt Ideal) ℓ) (c : Dev nD)

/-- The five arguments, as the specification takes them. -/
abbrev ax : Sx.Idx → EReal := m ((c : Thread nD τ).loc main_arg0)
abbrev awe : Swe.Idx → EReal := m ((c : Thread nD τ).loc main_arg1)
abbrev abe : Sbe.Idx → EReal := m ((c : Thread nD τ).loc main_arg2)
abbrev awg : Swg.Idx → EReal := m ((c : Thread nD τ).loc main_arg3)
abbrev abg : Sbg.Idx → EReal := m ((c : Thread nD τ).loc main_arg4)

/-- The block's logits in an expert's columns are that expert's. -/
theorem raw_expert (t : Fin cfg0.N) (r : Fin 2048) (n : Fin 8) (k : Fin 10) :
    raw (iblk m c 0 t) (iblk m c 1 t) (iblk m c 2 t) r (ecol n k) = logit (ax m c) (awe m c) (abe m c) (row t r) n k := by
  unfold raw logit
  refine congrArg₂ (fun p q : EReal => p + q) (Finset.sum_congr rfl fun d _ => congrArg₂ (fun p q : EReal => p * q) ?_ ?_) ?_
  · exact rows_apply m c t r d
  · exact (congrFun (weights_whole m c t) _).trans (Operands.weights_expert m c d n k _ rfl)
  · exact (congrFun (biases_whole m c t) _).trans (Operands.biases_expert m c n k _ rfl)

/-- The block's logits in the gate's columns are the gate's. -/
theorem raw_gate (t : Fin cfg0.N) (r : Fin 2048) (n : Fin 8) :
    raw (iblk m c 0 t) (iblk m c 1 t) (iblk m c 2 t) r (gcol n) = gate (ax m c) (awg m c) (abg m c) (row t r) n := by
  unfold raw gate
  refine congrArg₂ (fun p q : EReal => p + q) (Finset.sum_congr rfl fun d _ => congrArg₂ (fun p q : EReal => p * q) ?_ ?_) ?_
  · exact rows_apply m c t r d
  · exact (congrFun (weights_whole m c t) _).trans (Operands.weights_gate m c d n _ rfl)
  · exact (congrFun (biases_whole m c t) _).trans (Operands.biases_gate m c n _ rfl)

/-- So a block row selects the expert its array row selects. -/
theorem sel_row (t : Fin cfg0.N) (r : Fin 2048) :
    sel (iblk m c 0 t) (iblk m c 1 t) (iblk m c 2 t) r = pick (ax m c) (awg m c) (abg m c) (row t r) := by
  unfold sel pick
  exact congrArg first (funext fun n => raw_gate m c t r n)

end Mixture.Windows

end
-- ==== Proof.Outs.lean ====
/- What one grid point leaves in the three result buffers, as the block's payloads of the buffers it reads: the softmax
   block, the eight planes of logits, and the counts — the block's own at the first point, added to what the point before
   left at the others. -/
module

public import proofs.«01_k».proof.Proof.Indices
public import proofs.«01_k».proof.Proof.Gen.KernelIdeal.Frame
public import Idealize.ShloMosaic.Lib.Tactic

@[expose] public section

noncomputable section

namespace Mixture.Outs

open Idealize.ShloMosaic Idealize.ShloMosaic.ValueIdx Idealize.ShloMosaic.TcCoe Cert.KernelIdeal Cert.KernelIdeal.Gen

variable {F : FTy → Type} [FloatOps F]

theorem hz : (![0, 0] : Fin 2 → ℕ) = fun _ => 0 := funext fun a => by fin_cases a <;> rfl

/-- The softmax block of a block's inputs. -/
def soft (x0 : Vec F S2048x768 .f32) (x1 : Vec F S768x88 .f32) (x2 : Vec F S1x88 .f32) (x3 : Vec F S8x80 .f32) (x4 : Vec F S80x10 .f32) :
    Vec F S2048x10 .f32 :=
  k0_pay1 (k0_pay14 (k0_pay4 x0 x1 x2) (k0_pay5 x0 x1 x2) x3 x4) (k0_pay15 (k0_pay4 x0 x1 x2) (k0_pay5 x0 x1 x2) x3 x4)

/-- The eight planes of a block's logits: plane `n` is columns `10 n … 10 n + 9`. -/
def planes (L : FVec F S2048x88 .f32) : Vec F S8x2048x10 .f32 := fun y =>
  L (ix2 (y 1) ⟨10 * (y 0).val + (y 2).val, by
    have h0 : (y 0).val < 8 := (y 0).isLt
    have h2 : (y 2).val < 10 := (y 2).isLt
    omega⟩)

/-- One stored plane is the plane of that number. -/
theorem plane_eq (L : FVec F S2048x88 .f32) (n : ℕ) (hn : n < 8) (o : ℕ) (ho : o = 10 * n) (h : S2048x88.Slices ![0, o] S2048x10)
    (inb : ∀ a, (![n, 0, 0] : Fin 3 → ℕ) a + S1x2048x10.size a ≤ S8x2048x10.size a) (y : S1x2048x10.Idx) :
    shapeCast S1x2048x10 (extractStridedSlice S2048x10 ![0, o] L h) shapeCasts_S2048x10_S1x2048x10 y
      = planes L ((Rect.unit (s := S8x2048x10) ![n, 0, 0] S1x2048x10.size inb).emb y) := by
  have h0 : (y 0).val < 1 := (y 0).isLt
  have h1 : (y 1).val < 2048 := (y 1).isLt
  have h2 : (y 2).val < 10 := (y 2).isLt
  refine (shapeCast_apply (extractStridedSlice S2048x10 ![0, o] L h) shapeCasts_S2048x10_S1x2048x10 y
    (ix2 (y 1 : Fin 2048) (y 2 : Fin 10)) ?_).trans ?_
  · rw [Shape.rowMajor_val_two, Shape.rowMajor_val_three]
    show (y 1).val * 10 + (y 2).val = ((y 0).val * 2048 + (y 1).val) * 10 + (y 2).val
    omega
  refine extractStridedSlice_apply _ L h _ _ (fun a => match a with
    | ⟨0, _⟩ => ?_
    | ⟨1, _⟩ => ?_)
  · show 0 + 1 * (y 1).val = 0 + (y 1).val
    omega
  · show 10 * (n + 1 * (y 0).val) + (0 + 1 * (y 2).val) = o + (y 2).val
    omega

/-- At the first point the first result's buffer is left with the softmax block. -/
theorem out_A_5 (c : Dev nD) (i : grid0.Coords) (a1 : Memref sig .tc .vmem S2048x768 .f32) (h1 : a1.IsWhole) (a2 : Memref sig .tc .vmem S768x88 .f32) (h2 : a2.IsWhole)
    (a3 : Memref sig .tc .vmem S1x88 .f32) (h3 : a3.IsWhole) (a4 : Memref sig .tc .vmem S8x80 .f32) (h4 : a4.IsWhole)
    (a5 : Memref sig .tc .vmem S80x10 .f32) (h5 : a5.IsWhole) (a6 : Memref sig .tc .vmem S2048x10 .f32) (h6 : a6.IsWhole)
    (a7 : Memref sig .tc .vmem S8x2048x10 .f32) (h7 : a7.IsWhole) (a8 : Memref sig .tc .vmem S1x8 .i32) (h8 : a8.IsWhole)
    (hc0 : cond0_0 i) (hc1 : ¬cond0_1 i) (x0 : Vec F S2048x768 .f32) (x1 : Vec F S768x88 .f32) (x2 : Vec F S1x88 .f32) (x3 : Vec F S8x80 .f32) (x4 : Vec F S80x10 .f32) :
    out0_A_5 c i a1 h1 a2 h2 a3 h3 a4 h4 a5 h5 a6 h6 a7 h7 a8 h8 hc0 hc1 x0 x1 x2 x3 x4 = soft x0 x1 x2 x3 x4 := by
  unfold out0_A_5
  rw [View.read_writes_eq_canon _ _ _ (cover0_A_5 c i a1 h1 a2 h2 a3 h3 a4 h4 a5 h5 a6 h6 a7 h7 a8 h8 hc0 hc1 x0 x1 x2 x3 x4)]
  unfold kernelRun0_A
  dsimp only
  sl_unfold_words
  rw [View.canon_unit_zero hz]
  unfold soft
  simp only [View.readAt_eq_ld, h1.read_unread, h2.read_unread, h3.read_unread, h4.read_unread, h5.read_unread, h8.read_unread,
    View.ld_unit_zero (S := S2048x768) hz, View.ld_unit_zero (S := S768x88) hz, View.ld_unit_zero (S := S1x88) hz,
    View.ld_unit_zero (S := S8x80) hz, View.ld_unit_zero (S := S80x10) hz, View.ld_unit_zero (S := S1x8) hz]

/-- At the first point the second result's buffer is left with the planes of logits. -/
theorem out_A_6 (c : Dev nD) (i : grid0.Coords) (a1 : Memref sig .tc .vmem S2048x768 .f32) (h1 : a1.IsWhole) (a2 : Memref sig .tc .vmem S768x88 .f32) (h2 : a2.IsWhole)
    (a3 : Memref sig .tc .vmem S1x88 .f32) (h3 : a3.IsWhole) (a4 : Memref sig .tc .vmem S8x80 .f32) (h4 : a4.IsWhole)
    (a5 : Memref sig .tc .vmem S80x10 .f32) (h5 : a5.IsWhole) (a6 : Memref sig .tc .vmem S2048x10 .f32) (h6 : a6.IsWhole)
    (a7 : Memref sig .tc .vmem S8x2048x10 .f32) (h7 : a7.IsWhole) (a8 : Memref sig .tc .vmem S1x8 .i32) (h8 : a8.IsWhole)
    (hc0 : cond0_0 i) (hc1 : ¬cond0_1 i) (x0 : Vec F S2048x768 .f32) (x1 : Vec F S768x88 .f32) (x2 : Vec F S1x88 .f32) (x3 : Vec F S8x80 .f32) (x4 : Vec F S80x10 .f32) :
    out0_A_6 c i a1 h1 a2 h2 a3 h3 a4 h4 a5 h5 a6 h6 a7 h7 a8 h8 hc0 hc1 x0 x1 x2 x3 x4 = planes (k0_pay4 x0 x1 x2) := by
  unfold out0_A_6
  rw [View.read_writes_eq_canon _ _ _ (cover0_A_6 c i a1 h1 a2 h2 a3 h3 a4 h4 a5 h5 a6 h6 a7 h7 a8 h8 hc0 hc1 x0 x1 x2 x3 x4)]
  funext y
  refine View.canon_apply_of_pieces (planes (k0_pay4 x0 x1 x2)) _ ?_ y (cover0_A_6 c i a1 h1 a2 h2 a3 h3 a4 h4 a5 h5 a6 h6 a7 h7 a8 h8 hc0 hc1 x0 x1 x2 x3 x4 y)
  unfold kernelRun0_A
  dsimp only
  sl_unfold_words
  simp only [View.readAt_eq_ld, h1.read_unread, h2.read_unread, h3.read_unread, h4.read_unread, h5.read_unread, h8.read_unread,
    View.ld_unit_zero (S := S2048x768) hz, View.ld_unit_zero (S := S768x88) hz, View.ld_unit_zero (S := S1x88) hz,
    View.ld_unit_zero (S := S8x80) hz, View.ld_unit_zero (S := S80x10) hz, View.ld_unit_zero (S := S1x8) hz]
  intro p hp
  simp only [List.mem_cons, List.not_mem_nil, or_false] at hp
  rcases hp with rfl | rfl | rfl | rfl | rfl | rfl | rfl | rfl
  · exact plane_eq (k0_pay4 x0 x1 x2) 7 (by decide) 70 rfl slices_S2048x88_o0_70_S2048x10 inb_S8x2048x10_S1x2048x10_7_0_0
  · exact plane_eq (k0_pay4 x0 x1 x2) 6 (by decide) 60 rfl slices_S2048x88_o0_60_S2048x10 inb_S8x2048x10_S1x2048x10_6_0_0
  · exact plane_eq (k0_pay4 x0 x1 x2) 5 (by decide) 50 rfl slices_S2048x88_o0_50_S2048x10 inb_S8x2048x10_S1x2048x10_5_0_0
  · exact plane_eq (k0_pay4 x0 x1 x2) 4 (by decide) 40 rfl slices_S2048x88_o0_40_S2048x10 inb_S8x2048x10_S1x2048x10_4_0_0
  · exact plane_eq (k0_pay4 x0 x1 x2) 3 (by decide) 30 rfl slices_S2048x88_o0_30_S2048x10 inb_S8x2048x10_S1x2048x10_3_0_0
  · exact plane_eq (k0_pay4 x0 x1 x2) 2 (by decide) 20 rfl slices_S2048x88_o0_20_S2048x10 inb_S8x2048x10_S1x2048x10_2_0_0
  · exact plane_eq (k0_pay4 x0 x1 x2) 1 (by decide) 10 rfl slices_S2048x88_o0_10_S2048x10 inb_S8x2048x10_S1x2048x10_1_0_0
  · exact plane_eq (k0_pay4 x0 x1 x2) 0 (by decide) 0 rfl slices_S2048x88_o0_0_S2048x10 inb_S8x2048x10_S1x2048x10_0_0_0

/-- At the first point the third result's buffer is left with the block's counts. -/
theorem out_A_7 (c : Dev nD) (i : grid0.Coords) (a1 : Memref sig .tc .vmem S2048x768 .f32) (h1 : a1.IsWhole) (a2 : Memref sig .tc .vmem S768x88 .f32) (h2 : a2.IsWhole)
    (a3 : Memref sig .tc .vmem S1x88 .f32) (h3 : a3.IsWhole) (a4 : Memref sig .tc .vmem S8x80 .f32) (h4 : a4.IsWhole)
    (a5 : Memref sig .tc .vmem S80x10 .f32) (h5 : a5.IsWhole) (a6 : Memref sig .tc .vmem S2048x10 .f32) (h6 : a6.IsWhole)
    (a7 : Memref sig .tc .vmem S8x2048x10 .f32) (h7 : a7.IsWhole) (a8 : Memref sig .tc .vmem S1x8 .i32) (h8 : a8.IsWhole)
    (hc0 : cond0_0 i) (hc1 : ¬cond0_1 i) (x0 : Vec F S2048x768 .f32) (x1 : Vec F S768x88 .f32) (x2 : Vec F S1x88 .f32) (x3 : Vec F S8x80 .f32) (x4 : Vec F S80x10 .f32) :
    out0_A_7 c i a1 h1 a2 h2 a3 h3 a4 h4 a5 h5 a6 h6 a7 h7 a8 h8 hc0 hc1 x0 x1 x2 x3 x4 = k0_pay2 (k0_pay5 x0 x1 x2) := by
  unfold out0_A_7
  rw [View.read_writes_eq_canon _ _ _ (cover0_A_7 c i a1 h1 a2 h2 a3 h3 a4 h4 a5 h5 a6 h6 a7 h7 a8 h8 hc0 hc1 x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread,
    View.ld_unit_zero (S := S2048x768) hz, View.ld_unit_zero (S := S768x88) hz, View.ld_unit_zero (S := S1x88) hz,
    View.ld_unit_zero (S := S8x80) hz, View.ld_unit_zero (S := S80x10) hz, View.ld_unit_zero (S := S1x8) hz]

/-- At a later point the first result's buffer is left with the softmax block. -/
theorem out_B_5 (c : Dev nD) (i : grid0.Coords) (a1 : Memref sig .tc .vmem S2048x768 .f32) (h1 : a1.IsWhole) (a2 : Memref sig .tc .vmem S768x88 .f32) (h2 : a2.IsWhole)
    (a3 : Memref sig .tc .vmem S1x88 .f32) (h3 : a3.IsWhole) (a4 : Memref sig .tc .vmem S8x80 .f32) (h4 : a4.IsWhole)
    (a5 : Memref sig .tc .vmem S80x10 .f32) (h5 : a5.IsWhole) (a6 : Memref sig .tc .vmem S2048x10 .f32) (h6 : a6.IsWhole)
    (a7 : Memref sig .tc .vmem S8x2048x10 .f32) (h7 : a7.IsWhole) (a8 : Memref sig .tc .vmem S1x8 .i32) (h8 : a8.IsWhole)
    (hc0 : ¬cond0_0 i) (hc1 : cond0_1 i) (x0 : Vec F S2048x768 .f32) (x1 : Vec F S768x88 .f32) (x2 : Vec F S1x88 .f32) (x3 : Vec F S8x80 .f32) (x4 : Vec F S80x10 .f32) (xo : Vec F S1x8 .i32) :
    out0_B_5 c i a1 h1 a2 h2 a3 h3 a4 h4 a5 h5 a6 h6 a7 h7 a8 h8 hc0 hc1 x0 x1 x2 x3 x4 xo = soft x0 x1 x2 x3 x4 := by
  unfold out0_B_5
  rw [View.read_writes_eq_canon _ _ _ (cover0_B_5 c i a1 h1 a2 h2 a3 h3 a4 h4 a5 h5 a6 h6 a7 h7 a8 h8 hc0 hc1 x0 x1 x2 x3 x4 xo)]
  unfold kernelRun0_B
  dsimp only
  sl_unfold_words
  rw [View.canon_unit_zero hz]
  unfold soft
  simp only [View.readAt_eq_ld, h1.read_unread, h2.read_unread, h3.read_unread, h4.read_unread, h5.read_unread, h8.read_unread,
    View.ld_unit_zero (S := S2048x768) hz, View.ld_unit_zero (S := S768x88) hz, View.ld_unit_zero (S := S1x88) hz,
    View.ld_unit_zero (S := S8x80) hz, View.ld_unit_zero (S := S80x10) hz, View.ld_unit_zero (S := S1x8) hz]

/-- At a later point the second result's buffer is left with the planes of logits. -/
theorem out_B_6 (c : Dev nD) (i : grid0.Coords) (a1 : Memref sig .tc .vmem S2048x768 .f32) (h1 : a1.IsWhole) (a2 : Memref sig .tc .vmem S768x88 .f32) (h2 : a2.IsWhole)
    (a3 : Memref sig .tc .vmem S1x88 .f32) (h3 : a3.IsWhole) (a4 : Memref sig .tc .vmem S8x80 .f32) (h4 : a4.IsWhole)
    (a5 : Memref sig .tc .vmem S80x10 .f32) (h5 : a5.IsWhole) (a6 : Memref sig .tc .vmem S2048x10 .f32) (h6 : a6.IsWhole)
    (a7 : Memref sig .tc .vmem S8x2048x10 .f32) (h7 : a7.IsWhole) (a8 : Memref sig .tc .vmem S1x8 .i32) (h8 : a8.IsWhole)
    (hc0 : ¬cond0_0 i) (hc1 : cond0_1 i) (x0 : Vec F S2048x768 .f32) (x1 : Vec F S768x88 .f32) (x2 : Vec F S1x88 .f32) (x3 : Vec F S8x80 .f32) (x4 : Vec F S80x10 .f32) (xo : Vec F S1x8 .i32) :
    out0_B_6 c i a1 h1 a2 h2 a3 h3 a4 h4 a5 h5 a6 h6 a7 h7 a8 h8 hc0 hc1 x0 x1 x2 x3 x4 xo = planes (k0_pay4 x0 x1 x2) := by
  unfold out0_B_6
  rw [View.read_writes_eq_canon _ _ _ (cover0_B_6 c i a1 h1 a2 h2 a3 h3 a4 h4 a5 h5 a6 h6 a7 h7 a8 h8 hc0 hc1 x0 x1 x2 x3 x4 xo)]
  funext y
  refine View.canon_apply_of_pieces (planes (k0_pay4 x0 x1 x2)) _ ?_ y (cover0_B_6 c i a1 h1 a2 h2 a3 h3 a4 h4 a5 h5 a6 h6 a7 h7 a8 h8 hc0 hc1 x0 x1 x2 x3 x4 xo y)
  unfold kernelRun0_B
  dsimp only
  sl_unfold_words
  simp only [View.readAt_eq_ld, h1.read_unread, h2.read_unread, h3.read_unread, h4.read_unread, h5.read_unread, h8.read_unread,
    View.ld_unit_zero (S := S2048x768) hz, View.ld_unit_zero (S := S768x88) hz, View.ld_unit_zero (S := S1x88) hz,
    View.ld_unit_zero (S := S8x80) hz, View.ld_unit_zero (S := S80x10) hz, View.ld_unit_zero (S := S1x8) hz]
  intro p hp
  simp only [List.mem_cons, List.not_mem_nil, or_false] at hp
  rcases hp with rfl | rfl | rfl | rfl | rfl | rfl | rfl | rfl
  · exact plane_eq (k0_pay4 x0 x1 x2) 7 (by decide) 70 rfl slices_S2048x88_o0_70_S2048x10 inb_S8x2048x10_S1x2048x10_7_0_0
  · exact plane_eq (k0_pay4 x0 x1 x2) 6 (by decide) 60 rfl slices_S2048x88_o0_60_S2048x10 inb_S8x2048x10_S1x2048x10_6_0_0
  · exact plane_eq (k0_pay4 x0 x1 x2) 5 (by decide) 50 rfl slices_S2048x88_o0_50_S2048x10 inb_S8x2048x10_S1x2048x10_5_0_0
  · exact plane_eq (k0_pay4 x0 x1 x2) 4 (by decide) 40 rfl slices_S2048x88_o0_40_S2048x10 inb_S8x2048x10_S1x2048x10_4_0_0
  · exact plane_eq (k0_pay4 x0 x1 x2) 3 (by decide) 30 rfl slices_S2048x88_o0_30_S2048x10 inb_S8x2048x10_S1x2048x10_3_0_0
  · exact plane_eq (k0_pay4 x0 x1 x2) 2 (by decide) 20 rfl slices_S2048x88_o0_20_S2048x10 inb_S8x2048x10_S1x2048x10_2_0_0
  · exact plane_eq (k0_pay4 x0 x1 x2) 1 (by decide) 10 rfl slices_S2048x88_o0_10_S2048x10 inb_S8x2048x10_S1x2048x10_1_0_0
  · exact plane_eq (k0_pay4 x0 x1 x2) 0 (by decide) 0 rfl slices_S2048x88_o0_0_S2048x10 inb_S8x2048x10_S1x2048x10_0_0_0

/-- At a later point the third result's buffer is left with the block's counts added to what it held. -/
theorem out_B_7 (c : Dev nD) (i : grid0.Coords) (a1 : Memref sig .tc .vmem S2048x768 .f32) (h1 : a1.IsWhole) (a2 : Memref sig .tc .vmem S768x88 .f32) (h2 : a2.IsWhole)
    (a3 : Memref sig .tc .vmem S1x88 .f32) (h3 : a3.IsWhole) (a4 : Memref sig .tc .vmem S8x80 .f32) (h4 : a4.IsWhole)
    (a5 : Memref sig .tc .vmem S80x10 .f32) (h5 : a5.IsWhole) (a6 : Memref sig .tc .vmem S2048x10 .f32) (h6 : a6.IsWhole)
    (a7 : Memref sig .tc .vmem S8x2048x10 .f32) (h7 : a7.IsWhole) (a8 : Memref sig .tc .vmem S1x8 .i32) (h8 : a8.IsWhole)
    (hc0 : ¬cond0_0 i) (hc1 : cond0_1 i) (x0 : Vec F S2048x768 .f32) (x1 : Vec F S768x88 .f32) (x2 : Vec F S1x88 .f32) (x3 : Vec F S8x80 .f32) (x4 : Vec F S80x10 .f32) (xo : Vec F S1x8 .i32) :
    out0_B_7 c i a1 h1 a2 h2 a3 h3 a4 h4 a5 h5 a6 h6 a7 h7 a8 h8 hc0 hc1 x0 x1 x2 x3 x4 xo = k0_pay3 (k0_pay5 x0 x1 x2) xo := by
  unfold out0_B_7
  rw [View.read_writes_eq_canon _ _ _ (cover0_B_7 c i a1 h1 a2 h2 a3 h3 a4 h4 a5 h5 a6 h6 a7 h7 a8 h8 hc0 hc1 x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S2048x768) hz, View.ld_unit_zero (S := S768x88) hz, View.ld_unit_zero (S := S1x88) hz,
    View.ld_unit_zero (S := S8x80) hz, View.ld_unit_zero (S := S80x10) hz, View.ld_unit_zero (S := S1x8) hz]

end Mixture.Outs

end
-- ==== Proof.Count.lean ====
/- Counting rows block by block: the rows below a bound that satisfy a condition, one block of 2048 more at a time. -/
module

public import proofs.«01_k».proof.Proof.Spec

@[expose] public section

noncomputable section

namespace Mixture

/-- How many rows below `s` are sent to `n`. -/
def below (p : Fin 32768 → Fin 8) (s : ℕ) (n : Fin 8) : ℕ := (Finset.univ.filter fun b : Fin 32768 => b.val < s ∧ p b = n).card

/-- No row lies below zero. -/
theorem below_zero (p : Fin 32768 → Fin 8) (n : Fin 8) : below p 0 n = 0 := by
  unfold below
  rw [Finset.card_eq_zero, Finset.filter_eq_empty_iff]
  exact fun b _ h => absurd h.1 (Nat.not_lt_zero _)

/-- Every row lies below 32768. -/
theorem below_all (p : Fin 32768 → Fin 8) (n : Fin 8) : below p 32768 n = (Finset.univ.filter fun b => p b = n).card :=
  congrArg Finset.card (Finset.filter_congr fun b _ => ⟨fun h => h.2, fun h => ⟨b.isLt, h⟩⟩)

/-- The count below `s + 2048` is the count below `s` and the count of the block of 2048 rows from `s` on. -/
theorem below_add (p : Fin 32768 → Fin 8) (s : ℕ) (n : Fin 8) (e : Fin 2048 → Fin 32768) (he : ∀ r, (e r).val = s + r.val) :
    below p (s + 2048) n = below p s n + (Finset.univ.filter fun r : Fin 2048 => p (e r) = n).card := by
  have inj : Function.Injective e := fun a b h => Fin.ext (by have := congrArg Fin.val h; rw [he, he] at this; omega)
  rw [← Finset.card_image_of_injective _ inj]
  unfold below
  rw [← Finset.card_union_of_disjoint]
  · refine congrArg Finset.card (Finset.ext fun b => ?_)
    simp only [Finset.mem_filter, Finset.mem_univ, true_and, Finset.mem_union, Finset.mem_image]
    constructor
    · rintro ⟨hb, hp⟩
      by_cases h : b.val < s
      · exact Or.inl ⟨h, hp⟩
      · have hr : b.val - s < 2048 := by omega
        have eb : e ⟨b.val - s, hr⟩ = b := Fin.ext (by rw [he]; show s + (b.val - s) = b.val; omega)
        exact Or.inr ⟨⟨b.val - s, hr⟩, by rw [eb]; exact hp, eb⟩
    · rintro (⟨h, hp⟩ | ⟨r, hp, rfl⟩)
      · exact ⟨by omega, hp⟩
      · have := r.isLt
        exact ⟨by rw [he]; omega, hp⟩
  · rw [Finset.disjoint_left]
    intro b hb hb'
    simp only [Finset.mem_filter, Finset.mem_univ, true_and, Finset.mem_image] at hb hb'
    obtain ⟨r, _, rfl⟩ := hb'
    have := hb.1
    rw [he] at this
    omega

end Mixture

end
-- ==== Proof.Points.lean ====
/- What each grid point leaves in the three result buffers, in the specification's terms. -/
module

public import proofs.«01_k».proof.Proof.Windows
public import proofs.«01_k».proof.Proof.Outs
public import proofs.«01_k».proof.Proof.Count

@[expose] public section

noncomputable section

namespace Mixture.Points

open Idealize.ShloMosaic hiding ix1 ix2 ix3
open Idealize.ShloMosaic.ValueIdx Idealize.ShloMosaic.TcCoe Cert.KernelIdeal Cert.KernelIdeal.Gen Mixture.Block Mixture.Windows

section Any

variable {F : FTy → Type} [FloatOps F] (m : (ℓ : Loc nD τ sig) → Buf (Elt F) ℓ) (c : Dev nD)

/-- Every point leaves its softmax block. -/
theorem point_soft (t : Fin cfg0.N) :
    (outsAt0 m c t.val t.isLt).1 = Outs.soft (iblk m c 0 t) (iblk m c 1 t) (iblk m c 2 t) (iblk m c 3 t) (iblk m c 4 t) := by
  have hN : cfg0.N = 16 := N_0
  have ht := t.isLt
  by_cases h0 : t.val % 16 = 0
  · rw [outsAt0_A m c t h0 (by omega)]
    dsimp only
    rw [Outs.out_A_5]
  · rw [outsAt0_B m c t h0 (by omega)]
    dsimp only
    rw [Outs.out_B_5]

/-- Every point leaves its eight planes of logits. -/
theorem point_planes (t : Fin cfg0.N) :
    (outsAt0 m c t.val t.isLt).2.1 = Outs.planes (k0_pay4 (iblk m c 0 t) (iblk m c 1 t) (iblk m c 2 t)) := by
  have hN : cfg0.N = 16 := N_0
  have ht := t.isLt
  by_cases h0 : t.val % 16 = 0
  · rw [outsAt0_A m c t h0 (by omega)]
    dsimp only
    rw [Outs.out_A_6]
  · rw [outsAt0_B m c t h0 (by omega)]
    dsimp only
    rw [Outs.out_B_6]

/-- The first point leaves its own counts. -/
theorem point_first (t : Fin cfg0.N) (h0 : t.val = 0) :
    (outsAt0 m c t.val t.isLt).2.2 = k0_pay2 (k0_pay5 (iblk m c 0 t) (iblk m c 1 t) (iblk m c 2 t)) := by
  rw [outsAt0_A m c t (by omega) (by omega)]
  dsimp only
  rw [Outs.out_A_7]

/-- A later point adds its counts to what the point before left. -/
theorem point_next (t : Fin cfg0.N) (h0 : 1 ≤ t.val) :
    (outsAt0 m c t.val t.isLt).2.2 = k0_pay3 (k0_pay5 (iblk m c 0 t) (iblk m c 1 t) (iblk m c 2 t))
      (outsAt0 m c (t.val - 1) (Nat.lt_of_le_of_lt (Nat.sub_le _ _) t.isLt)).2.2 := by
  have hN : cfg0.N = 16 := N_0
  have ht := t.isLt
  rw [outsAt0_B m c t (by omega) h0]
  dsimp only
  rw [Outs.out_B_7]

end Any

variable (m : (ℓ : Loc nD τ sig) → Buf (Elt Ideal) ℓ) (c : Dev nD)

/-- The point's 0/1 row marks the expert the array row selects. -/
theorem mark_row (t : Fin cfg0.N) (r : Fin 2048) (n : Fin 8) :
    k0_pay5 (F := Ideal) (iblk m c 0 t) (iblk m c 1 t) (iblk m c 2 t) (ix2 r n)
      = if pick (ax m c) (awg m c) (abg m c) (row t r) = n then (1 : EReal) else 0 := by
  rw [← sel_row m c t r]
  exact mark_apply _ _ _ r n

/-- The softmax block is the combined prediction of the point's rows. -/
theorem comb_point (t : Fin cfg0.N) (r : Fin 2048) (k : Fin 10) :
    ((outsAt0 m c t.val t.isLt).1 : Vec Ideal S2048x10 .f32) (ix2 r k)
      = comb (ax m c) (awe m c) (abe m c) (awg m c) (abg m c) (row t r) k := by
  rw [point_soft]
  unfold Outs.soft
  refine (softmax_apply _ _ _ _ (fun n j => (congrFun (owner_whole m c t) _).trans (Operands.owner_apply m c n j))
    (fun j k => (congrFun (class_whole m c t) _).trans (Operands.class_apply m c j k)) r
    (pick (ax m c) (awg m c) (abg m c) (row t r)) (mark_row m c t r) k).trans ?_
  unfold comb
  exact congrArg (fun f : Fin 10 → EReal => softmax f k)
    (funext fun k => (logits_apply _ _ _ r _).trans (raw_expert m c t r _ k))

/-- The planes are the experts' logits of the point's rows. -/
theorem planes_point (t : Fin cfg0.N) (n : Fin 8) (r : Fin 2048) (k : Fin 10) :
    ((outsAt0 m c t.val t.isLt).2.1 : Vec Ideal S8x2048x10 .f32) (ix3 n r k)
      = logit (ax m c) (awe m c) (abe m c) (row t r) n k := by
  rw [point_planes]
  exact (logits_apply _ _ _ r (ecol n k)).trans (raw_expert m c t r n k)

/-- A point's own counts. -/
theorem count_point (t : Fin cfg0.N) (n : Fin 8) :
    k0_pay2 (F := Ideal) (k0_pay5 (F := Ideal) (iblk m c 0 t) (iblk m c 1 t) (iblk m c 2 t)) (ix2 0 n)
      = BitVec.ofNat 32 (Finset.univ.filter fun r => pick (ax m c) (awg m c) (abg m c) (row t r) = n).card :=
  count_apply _ (fun r => pick (ax m c) (awg m c) (abg m c) (row t r)) (mark_row m c t) n

/-- After point `k` the counts are those of all the rows up to the end of its block. -/
theorem counts_point (n : Fin 8) : ∀ (k : ℕ) (h : k < cfg0.N),
    ((outsAt0 m c k h).2.2 : Vec Ideal S1x8 .i32) (ix2 0 n)
      = BitVec.ofNat 32 (below (pick (ax m c) (awg m c) (abg m c)) (2048 * k + 2048) n)
  | 0, h => by
    refine (congrFun (point_first m c ⟨0, h⟩ rfl) _).trans ((count_point m c ⟨0, h⟩ n).trans ?_)
    rw [below_add _ (2048 * 0) n (row ⟨0, h⟩) (fun r => rfl), Nat.mul_zero, below_zero, Nat.zero_add]
  | k + 1, h => by
    refine (congrFun (point_next m c ⟨k + 1, h⟩ (Nat.succ_le_succ (Nat.zero_le k))) _).trans ((add_apply _ _ n).trans ?_)
    rw [count_point m c ⟨k + 1, h⟩ n, below_add _ (2048 * (k + 1)) n (row ⟨k + 1, h⟩) (fun r => rfl)]
    refine (congrArg (fun w => IntOp.addi w _) (counts_point n k (Nat.lt_of_succ_lt h))).trans ?_
    exact (BitVec.ofNat_add _ _).symm

end Mixture.Points

end
-- ==== Proof.Arrays.lean ====
/- What the kernel's three result arrays hold after the run: each block is what its point left, so the arrays are the
   specification's, entry by entry. -/
module

public import proofs.«01_k».proof.Proof.Points
public import proofs.«01_k».proof.Proof.Gen.KernelIdeal.Value

@[expose] public section

noncomputable section

namespace Mixture.Arrays

open Idealize.ShloMosaic hiding ix1 ix2 ix3
open Idealize.ShloMosaic.ValueIdx Idealize.ShloMosaic.TcCoe Cert.KernelIdeal Cert.KernelIdeal.Gen Mixture.Windows
open Idealize.ShloMosaic.Pipeline (Dat)

/-- The first result's block index moves with the point. -/
theorem index5 (t : Fin cfg0.N) : win0_5.index t 0 = t.val ∧ win0_5.index t 1 = 0 := by
  rcases fin_N0 t with rfl | rfl | rfl | rfl | rfl | rfl | rfl | rfl | rfl | rfl | rfl | rfl | rfl | rfl | rfl | rfl <;> decide

/-- The second result's block index moves with the point on the middle axis. -/
theorem index6 (t : Fin cfg0.N) : win0_6.index t 0 = 0 ∧ win0_6.index t 1 = t.val ∧ win0_6.index t 2 = 0 := by
  rcases fin_N0 t with rfl | rfl | rfl | rfl | rfl | rfl | rfl | rfl | rfl | rfl | rfl | rfl | rfl | rfl | rfl | rfl <;> decide

/-- The third result's block index stays. -/
theorem index7 : win0_7.index t0_15 0 = 0 ∧ win0_7.index t0_15 1 = 0 := by decide

/-- The point whose block holds row `b`. -/
def pt (b : ℕ) (h : b < 32768) : Fin cfg0.N := ⟨b / 2048, by
  have hN : cfg0.N = 16 := N_0
  omega⟩

variable (m : (ℓ : Loc nD τ sig) → Buf (Elt Ideal) ℓ) (c : Dev nD)

/-- The first result as an array. -/
def combs : Buf (Elt Ideal) ((c : Thread nD τ).loc main_v24_0) := fun i : S32768x10.Idx =>
  comb (ax m c) (awe m c) (abe m c) (awg m c) (abg m c) (i 0) (i 1)

/-- The second result as an array. -/
def logits : Buf (Elt Ideal) ((c : Thread nD τ).loc main_v24_1) := fun i : S8x32768x10.Idx =>
  logit (ax m c) (awe m c) (abe m c) (i 1) (i 0) (i 2)

/-- The third result as an array. -/
def loads : Buf (Elt Ideal) ((c : Thread nD τ).loc main_v24_2) := fun i : S1x8.Idx => load (ax m c) (awg m c) (abg m c) (i 1)

/-- A point writes back its block of the first result. -/
theorem flushed_combs (t : Fin cfg0.N) :
    (dats m 0 c).flushed 5 t = ((cfg0.win 5).blk t).view.read (Elt Ideal) (combs m c) := by
  have hi := index5 t
  rw [Value.flushed5]
  funext j
  rw [View.read_apply]
  refine (at2 (A := 2048) (B := 10) (outsAt0 m c t.val t.isLt).1 _ (j 0) (j 1) (Fin.ext rfl) (Fin.ext rfl)).trans ?_
  refine (Points.comb_point m c t (j 0) (j 1)).trans ?_
  show _ = combs m c _
  unfold combs
  refine congrArg₂ (comb (ax m c) (awe m c) (abe m c) (awg m c) (abg m c)) (Fin.ext ?_) (Fin.ext ?_)
  · show 2048 * t.val + (j 0).val = win0_5.index t 0 * 2048 + 1 * (j 0).val
    rw [hi.1]; omega
  · show (j 1).val = win0_5.index t 1 * 10 + 1 * (j 1).val
    rw [hi.2]; omega

/-- A point writes back its block of the second result. -/
theorem flushed_logits (t : Fin cfg0.N) :
    (dats m 0 c).flushed 6 t = ((cfg0.win 6).blk t).view.read (Elt Ideal) (logits m c) := by
  have hi := index6 t
  rw [Value.flushed6]
  funext j
  rw [View.read_apply]
  refine (at3 (A := 8) (B := 2048) (C := 10) (outsAt0 m c t.val t.isLt).2.1 _ (j 0) (j 1) (j 2)
    (Fin.ext rfl) (Fin.ext rfl) (Fin.ext rfl)).trans ?_
  refine (Points.planes_point m c t (j 0) (j 1) (j 2)).trans ?_
  show _ = logits m c _
  unfold logits
  have e1 : row t (j 1) = ((cfg0.win 6).blk t).view.emb j 1 := Fin.ext (by
    show 2048 * t.val + (j 1).val = win0_6.index t 1 * 2048 + 1 * (j 1).val
    rw [hi.2.1]; omega)
  have e0 : j 0 = ((cfg0.win 6).blk t).view.emb j 0 := Fin.ext (by
    show (j 0).val = win0_6.index t 0 * 8 + 1 * (j 0).val
    rw [hi.1]; omega)
  have e2 : j 2 = ((cfg0.win 6).blk t).view.emb j 2 := Fin.ext (by
    show (j 2).val = win0_6.index t 2 * 10 + 1 * (j 2).val
    rw [hi.2.2]; omega)
  exact (congrArg (fun b => logit (ax m c) (awe m c) (abe m c) b (j 0) (j 2)) e1).trans
    (congrArg₂ (logit (ax m c) (awe m c) (abe m c) _) e0 e2)

/-- The last point writes back the counts of all the rows. -/
theorem flushed_loads (t : Fin cfg0.N) (hf : (cfg0.win 7).flush t = true) :
    (dats m 0 c).flushed 7 t = ((cfg0.win 7).blk t).view.read (Elt Ideal) (loads m c) := by
  have hN : cfg0.N = 16 := N_0
  have h15 : t.val = 15 := by have := (flush0_7 t).mp hf; have := t.isLt; omega
  obtain rfl : t = t0_15 := Fin.ext h15
  have hi := index7
  rw [Value.flushed7]
  funext j
  rw [View.read_apply]
  refine (at2 (A := 1) (B := 8) (outsAt0 m c t0_15.val t0_15.isLt).2.2 _ 0 (j 1) (Fin.ext (Nat.lt_one_iff.1 (j 0).isLt)) (Fin.ext rfl)).trans ?_
  refine (Points.counts_point m c (j 1) 15 t0_15.isLt).trans ?_
  show _ = loads m c _
  unfold loads load
  refine Eq.trans ?_ (congrArg (BitVec.ofNat 32) (below_all (pick (ax m c) (awg m c) (abg m c)) _))
  refine congrArg (fun n => BitVec.ofNat 32 (below (pick (ax m c) (awg m c) (abg m c)) 32768 n)) (Fin.ext ?_)
  show (j 1).val = win0_7.index t0_15 1 * 8 + 1 * (j 1).val
  rw [hi.2]; omega

/-- After the run the first result array is the combined predictions. -/
theorem final_combs : (dats m 0 c).arrAt 5 cfg0.N = combs m c :=
  (dats m 0 c).arrAt_eq_of_cover 5 (combs m c) (fun t _ => flushed_combs m c t) fun i => by
    have h0 : (i 0 : ℕ) < 32768 := (i 0).isLt
    have h1 : (i 1 : ℕ) < 10 := (i 1).isLt
    refine ⟨pt (i 0 : ℕ) h0, flush0_5 _, ?_⟩
    have hi := index5 (pt (i 0 : ℕ) h0)
    show i ∈ ((View.whole main_v24_0).slice (win0_5.rect (pt (i 0 : ℕ) h0))).set
    rw [View.set_slice_whole, Rect.mem_set_unit]
    intro a
    match a with
    | ⟨0, _⟩ =>
      show win0_5.index (pt (i 0 : ℕ) h0) 0 * 2048 ≤ (i 0 : ℕ) ∧ (i 0 : ℕ) < win0_5.index (pt (i 0 : ℕ) h0) 0 * 2048 + 2048
      rw [hi.1]
      show (i 0 : ℕ) / 2048 * 2048 ≤ (i 0 : ℕ) ∧ (i 0 : ℕ) < (i 0 : ℕ) / 2048 * 2048 + 2048
      omega
    | ⟨1, _⟩ =>
      show win0_5.index (pt (i 0 : ℕ) h0) 1 * 10 ≤ (i 1 : ℕ) ∧ (i 1 : ℕ) < win0_5.index (pt (i 0 : ℕ) h0) 1 * 10 + 10
      rw [hi.2]
      omega

/-- After the run the second result array is the experts' logits. -/
theorem final_logits : (dats m 0 c).arrAt 6 cfg0.N = logits m c :=
  (dats m 0 c).arrAt_eq_of_cover 6 (logits m c) (fun t _ => flushed_logits m c t) fun i => by
    have h0 : (i 0 : ℕ) < 8 := (i 0).isLt
    have h1 : (i 1 : ℕ) < 32768 := (i 1).isLt
    have h2 : (i 2 : ℕ) < 10 := (i 2).isLt
    refine ⟨pt (i 1 : ℕ) h1, flush0_6 _, ?_⟩
    have hi := index6 (pt (i 1 : ℕ) h1)
    show i ∈ ((View.whole main_v24_1).slice (win0_6.rect (pt (i 1 : ℕ) h1))).set
    rw [View.set_slice_whole, Rect.mem_set_unit]
    intro a
    match a with
    | ⟨0, _⟩ =>
      show win0_6.index (pt (i 1 : ℕ) h1) 0 * 8 ≤ (i 0 : ℕ) ∧ (i 0 : ℕ) < win0_6.index (pt (i 1 : ℕ) h1) 0 * 8 + 8
      rw [hi.1]
      omega
    | ⟨1, _⟩ =>
      show win0_6.index (pt (i 1 : ℕ) h1) 1 * 2048 ≤ (i 1 : ℕ) ∧ (i 1 : ℕ) < win0_6.index (pt (i 1 : ℕ) h1) 1 * 2048 + 2048
      rw [hi.2.1]
      show (i 1 : ℕ) / 2048 * 2048 ≤ (i 1 : ℕ) ∧ (i 1 : ℕ) < (i 1 : ℕ) / 2048 * 2048 + 2048
      omega
    | ⟨2, _⟩ =>
      show win0_6.index (pt (i 1 : ℕ) h1) 2 * 10 ≤ (i 2 : ℕ) ∧ (i 2 : ℕ) < win0_6.index (pt (i 1 : ℕ) h1) 2 * 10 + 10
      rw [hi.2.2]
      omega

/-- After the run the third result array is the counts. -/
theorem final_loads : (dats m 0 c).arrAt 7 cfg0.N = loads m c :=
  (dats m 0 c).arrAt_eq_of_cover 7 (loads m c) (flushed_loads m c) fun i => by
    have h0 : (i 0 : ℕ) < 1 := (i 0).isLt
    have h1 : (i 1 : ℕ) < 8 := (i 1).isLt
    refine ⟨t0_15, (flush0_7 t0_15).mpr rfl, ?_⟩
    have hi := index7
    show i ∈ ((View.whole main_v24_2).slice (win0_7.rect t0_15)).set
    rw [View.set_slice_whole, Rect.mem_set_unit]
    intro a
    match a with
    | ⟨0, _⟩ =>
      show win0_7.index t0_15 0 * 1 ≤ (i 0 : ℕ) ∧ (i 0 : ℕ) < win0_7.index t0_15 0 * 1 + 1
      rw [hi.1]
      omega
    | ⟨1, _⟩ =>
      show win0_7.index t0_15 1 * 8 ≤ (i 1 : ℕ) ∧ (i 1 : ℕ) < win0_7.index t0_15 1 * 8 + 8
      rw [hi.2]
      omega

end Mixture.Arrays

end
-- ==== Proof.Weights.lean ====
/- The softmax keeps the first greatest position: when every gate logit is below `+∞`, the position at which the softmax
   weights are first greatest is the one at which the logits are. -/
module

public import proofs.«01_k».proof.Proof.Spec

@[expose] public section

noncomputable section

namespace Mixture

open Idealize.ShloMosaic

/-- The exponential of an entry below `+∞` less a finite number is a nonnegative number. -/
theorem exp_sub_coe (a : EReal) (r : ℝ) (ha : a < ⊤) : ∃ f : ℝ, 0 ≤ f ∧ Ideal.exp (a - (r : EReal)) = (f : EReal) := by
  induction a using EReal.rec with
  | bot => exact ⟨0, le_rfl, by simp⟩
  | coe s => exact ⟨Real.exp (s - r), (Real.exp_pos _).le, by rw [← EReal.coe_sub, Ideal.exp_coe]⟩
  | top => exact absurd ha (lt_irrefl _)

/-- It grows strictly with the entry. -/
theorem exp_sub_lt {a b : EReal} (r : ℝ) (hb : b < ⊤) (h : a < b) :
    Ideal.exp (a - (r : EReal)) < Ideal.exp (b - (r : EReal)) := by
  induction b using EReal.rec with
  | bot => exact absurd h not_lt_bot
  | top => exact absurd hb (lt_irrefl _)
  | coe t =>
    rw [← EReal.coe_sub, Ideal.exp_coe]
    induction a using EReal.rec with
    | bot => rw [EReal.bot_sub, Ideal.exp_bot]; exact_mod_cast Real.exp_pos _
    | coe s =>
      rw [← EReal.coe_sub, Ideal.exp_coe, EReal.coe_lt_coe_iff, Real.exp_lt_exp]
      have := EReal.coe_lt_coe_iff.1 h
      linarith
    | top => exact absurd h not_top_lt

/-- The exponential of zero is one. -/
theorem exp_sub_self (r : ℝ) : Ideal.exp ((r : EReal) - (r : EReal)) = ((1 : ℝ) : EReal) := by
  rw [← EReal.coe_sub, sub_self, Ideal.exp_coe, Real.exp_zero]

/-- A finite sum of numbers is the number their sum. -/
theorem sum_coe {N : ℕ} (f : Fin N → ℝ) : ∑ k, ((f k : ℝ) : EReal) = ((∑ k, f k : ℝ) : EReal) :=
  (map_sum (⟨⟨Real.toEReal, EReal.coe_zero⟩, EReal.coe_add⟩ : ℝ →+ EReal) f Finset.univ).symm

/-- **The softmax weights are first greatest where the logits are**, for logits below `+∞`. -/
theorem Selects.softmax {N : ℕ} {g : Fin N → EReal} {n : Fin N} (h : Selects g n) (hg : ∀ k, g k < ⊤) :
    Selects (softmax g) n := by
  have ht := h.top_eq
  rcases eq_or_ne (g n) ⊥ with hb | hb
  · -- every logit is `-∞`: all weights are the same, and no position is before `n`
    have hall : ∀ k, g k = g n := fun k => le_antisymm (h.1 k) (hb ▸ bot_le)
    refine ⟨fun k => le_of_eq ?_, fun k hk => absurd (h.2 k hk) (by rw [hall k]; exact lt_irrefl _)⟩
    unfold Mixture.softmax
    rw [hall k]
  · lift g n to ℝ using ⟨(hg n).ne, hb⟩ with r hr
    choose f hf0 hf using fun k => exp_sub_coe (g k) r (hg k)
    have hn : f n = 1 := by
      have := hf n
      rw [← hr, exp_sub_self] at this
      exact_mod_cast this.symm
    have hs : 0 < ∑ k, f k :=
      lt_of_lt_of_le (by rw [hn]; exact one_pos) (Finset.single_le_sum (fun k _ => hf0 k) (Finset.mem_univ n))
    have hw : ∀ k, Mixture.softmax g k = ((f k / ∑ j, f j : ℝ) : EReal) := fun k => by
      unfold Mixture.softmax
      rw [ht]
      simp only [hf]
      rw [sum_coe, Ideal.div_coe hs.ne', ← EReal.coe_mul, mul_one_div]
    have hlt : ∀ k, g k < r → f k < f n := fun k hk => by
      have := exp_sub_lt r (hg n) (hr ▸ hk)
      rw [hf, hf] at this
      exact_mod_cast this
    refine ⟨fun k => ?_, fun k hk => ?_⟩
    · rw [hw, hw, EReal.coe_le_coe_iff]
      refine div_le_div_of_nonneg_right ?_ hs.le
      rcases lt_or_eq_of_le (h.1 k) with h1 | h1
      · exact (hlt k (hr ▸ h1)).le
      · have := hf k
        rw [h1, ← hr, exp_sub_self] at this
        rw [hn]
        exact_mod_cast this.symm.le
    · rw [hw, hw, EReal.coe_lt_coe_iff]
      exact div_lt_div_of_pos_right (hlt k (hr ▸ h.2 k hk)) hs

end Mixture

end
-- ==== Proof.TopOne.lean ====
/- The first entry of a stable sort by a strict order is the first greatest position, so a top-1 search returns it. -/
module

public import proofs.«01_k».proof.Proof.Spec
public import Idealize.ShloMosaic.Lib.Pipeline.Value

@[expose] public section

noncomputable section

namespace Mixture

open Idealize.ShloMosaic Idealize.ShloMosaic.ValueIdx

/-- The head of a list sorted greatest first, stably, is greatest in the list and exceeds what stood before it. -/
theorem stableSort_head {N : ℕ} (w : Fin N → EReal) (before : Fin N → Fin N → Bool)
    (hb : ∀ k k', before k k' = true ↔ w k' < w k) :
    ∀ (l : List (Fin N)), l.Pairwise (· < ·) → ∀ (m : Fin N) (t : List (Fin N)), stableSort before l = m :: t →
      m ∈ l ∧ (∀ k ∈ l, w k ≤ w m) ∧ ∀ k ∈ l, k < m → w k < w m
  | [], _, m, t, h => by simp [stableSort] at h
  | a :: l, hl, m, t, h => by
    rw [List.pairwise_cons] at hl
    unfold stableSort at h
    rcases hs : stableSort before l with _ | ⟨b, u⟩
    · -- nothing after `a`
      have hnil : l = [] := List.length_eq_zero_iff.1 (by rw [← length_stableSort before l, hs]; rfl)
      subst hnil
      rw [hs] at h
      simp only [insertBefore, List.cons.injEq] at h
      obtain rfl := h.1
      simp
    · obtain ⟨h1, h2, h3⟩ := stableSort_head w before hb l hl.2 b u hs
      rw [hs] at h
      unfold insertBefore at h
      split at h
      · -- the later head exceeds `a`
        rename_i hc
        rw [hb] at hc
        obtain rfl := (List.cons.inj h).1
        refine ⟨List.mem_cons_of_mem _ h1, fun k hk => ?_, fun k hk hkm => ?_⟩
        · rcases List.mem_cons.1 hk with rfl | hk
          · exact hc.le
          · exact h2 k hk
        · rcases List.mem_cons.1 hk with rfl | hk
          · exact hc
          · exact h3 k hk hkm
      · -- it does not: `a` stays first
        rename_i hc
        rw [hb, not_lt] at hc
        obtain rfl := (List.cons.inj h).1
        refine ⟨List.mem_cons_self, fun k hk => ?_, fun k hk hkm => ?_⟩
        · rcases List.mem_cons.1 hk with rfl | hk
          · exact le_rfl
          · exact (h2 k hk).trans hc
        · rcases List.mem_cons.1 hk with rfl | hk
          · exact absurd hkm (lt_irrefl _)
          · exact absurd (hl.1 k hk) (not_lt.2 hkm.le)

/-- So the position sorted to the front is the first greatest one. -/
theorem selects_sortedFrom {N : ℕ} (w : Fin N → EReal) (before : Fin N → Fin N → Bool)
    (hb : ∀ k k', before k k' = true ↔ w k' < w k) (z : Fin N) (hz : z.val = 0) : Selects w (sortedFrom before z) := by
  have hlen := length_sortPositions N before
  rcases hs : sortPositions N before with _ | ⟨m, t⟩
  · rw [hs] at hlen; exact absurd hlen (by simp; have := z.isLt; omega)
  · have hm : sortedFrom before z = m := by
      have e : ∀ (L : List (Fin N)) (hL : L.length = N), L = m :: t → L.get (z.cast hL.symm) = m := by
        rintro L hL rfl
        have h0 : z.cast hL.symm = ⟨0, by simp⟩ := Fin.ext hz
        rw [h0]; rfl
      exact e _ hlen hs
    obtain ⟨-, h2, h3⟩ := stableSort_head w before hb (List.finRange N) (List.pairwise_lt_finRange N) m t hs
    rw [hm]
    exact ⟨fun k => h2 k (List.mem_finRange k), fun k => h3 k (List.mem_finRange k)⟩

/-- **The index a top-1 search along the rows of an `[R, 8]` array returns for row `b`** is the first position at which that
    row is greatest. -/
theorem topK_index {R : ℕ} (y : (⟨2, ![R, 8]⟩ : Shape).Idx → EReal)
    (h : (⟨2, ![R, 8]⟩ : Shape).Slices (fun _ => 0) ⟨2, ![R, 1]⟩) (b : Fin R) :
    (Host.topK (s := ⟨2, ![R, 8]⟩) ⟨2, ![R, 1]⟩ 1 (FloatOps.cmpfTotal (F := Ideal) (φ := .f32) .gt) y h).2 (ix2 b 0)
      = BitVec.ofNat 32 (first fun n => y (ix2 b n)).val := by
  have key := selects_sortedFrom (fun n : Fin 8 => y (ix2 b n))
    (fun k k' => FloatOps.cmpfTotal (F := Ideal) (φ := .f32) .gt (y (ix2 b k)) (y (ix2 b k')) == 1#1)
    (fun k k' => by
      show (BitVec.ofBool (decide (y (ix2 b k') < y (ix2 b k))) == 1#1) = true ↔ _
      by_cases hk : y (ix2 b k') < y (ix2 b k) <;> simp [hk])
    (0 : Fin 8) rfl
  rw [← key.eq_first]
  have hcol : ∀ k : Fin 8, Shape.Idx.along (s := ⟨2, ![R, 8]⟩) (ix2 b (0 : Fin 8)) (1 : Fin 2) k = ix2 b k := fun k =>
    funext fun a => match a with | ⟨0, _⟩ => rfl | ⟨1, _⟩ => rfl
  unfold Host.topK Host.sort2
  simp only [dif_pos (show 1 < (⟨2, ![R, 8]⟩ : Shape).rank from Nat.one_lt_two)]
  rw [extractStridedSlice_apply (fun _ => 0) _ h (ix2 b 0) (ix2 b 0)
    (fun a => match a with | ⟨0, _⟩ => (Nat.zero_add _).symm | ⟨1, _⟩ => rfl)]
  have hcong : ∀ p q : Fin 8 → Fin 8 → Bool, p = q → sortedFrom p 0 = sortedFrom q 0 := fun p q e => e ▸ rfl
  refine congrArg (fun k : Fin 8 => BitVec.ofNat 32 k.val) (hcong _ _ (funext fun k => funext fun k' => ?_))
  exact congrArg₂ (fun i j => FloatOps.cmpfTotal (F := Ideal) (φ := .f32) .gt (y i) (y j) == 1#1) (hcol k) (hcol k')

end Mixture

end
-- ==== Proof.Reference.lean ====
/- What the reference computes, entry by entry, in the terms of Spec: its logits, its selection (a top-1 search over the
   softmax of the gate, scattered into a 0/1 table), its combined prediction and its counts. -/
module

public import proofs.«01_k».proof.Proof.Indices
public import proofs.«01_k».proof.Proof.Spec
public import proofs.«01_k».proof.Proof.Weights
public import proofs.«01_k».proof.Proof.TopOne
public import proofs.«01_k».proof.Proof.Constants
public import proofs.«01_k».proof.Proof.Gen.ReferenceIdeal.Read
public import Idealize.ShloMosaic.Lib.Routing.OpsPair
public import Idealize.ShloMosaic.Lib.IndicatorCount

@[expose] public section

noncomputable section

namespace Mixture.Ref

open Idealize.ShloMosaic Idealize.ShloMosaic.ValueIdx Idealize.ShloMosaic.Routing
open Cert.ReferenceIdeal Cert.ReferenceIdeal.Gen Cert.ReferenceIdeal.Read

variable (x : Sx.Idx → EReal) (We : Swe.Idx → EReal) (be : Sbe.Idx → EReal) (Wg : Swg.Idx → EReal) (bg : Sbg.Idx → EReal)

/-! ## Logits -/

/-- The reference's expert logits are the specification's. -/
theorem logits_eq (n : Fin 8) (b : Fin 32768) (c : Fin 10) :
    val_main_v4 (F := Ideal) x We be (ix3 n b c) = logit x We be b n c := by
  rw [val_main_v4_apply, val_main_v1_apply, val_main_v0_apply, val_main_v3_apply, val_main_v2_apply]
  unfold logit
  refine congrArg₂ (fun p q : EReal => p + q) (Finset.sum_congr rfl fun d _ => ?_)
    (congrArg be (funext fun a => match a with | ⟨0, _⟩ => rfl | ⟨1, _⟩ => rfl))
  rw [mul_comm]
  exact congrArg₂ (fun p q : EReal => p * q) (congrArg x (funext fun a => match a with | ⟨0, _⟩ => rfl | ⟨1, _⟩ => rfl))
    (congrArg We (funext fun a => match a with | ⟨0, _⟩ => rfl | ⟨1, _⟩ => rfl | ⟨2, _⟩ => rfl))

/-- The reference's gate logits are the specification's. -/
theorem gates_eq (b : Fin 32768) (n : Fin 8) : val_main_v8 (F := Ideal) x Wg bg (ix2 b n) = gate x Wg bg b n := by
  rw [val_main_v8_apply, val_main_v5_apply, val_main_v7_apply, val_main_v6_apply]
  unfold gate
  refine congrArg₂ (fun p q : EReal => p + q) (Finset.sum_congr rfl fun d _ => ?_)
    (congrArg bg (funext fun a => match a with | ⟨0, _⟩ => rfl))
  exact congrArg₂ (fun p q : EReal => p * q) (congrArg x (funext fun a => match a with | ⟨0, _⟩ => rfl | ⟨1, _⟩ => rfl))
    (congrArg Wg (funext fun a => match a with | ⟨0, _⟩ => rfl | ⟨1, _⟩ => rfl))

/-! ## The gate's softmax -/

/-- The row maximum of the gate's logits. -/
theorem gate_max (b : Fin 32768) : val_main_v9 (F := Ideal) x Wg bg (ix1 b) = top (gate x Wg bg b) := by
  unfold val_main_v9
  rw [Host.reduce_eq_fold_single (FloatOps.maximumf (F := Ideal) (φ := .f32)) _ _ _ (by decide : S32768x8.Reduces [1] S32768)]
  unfold top
  refine congrArg₂ (fun i (f : Fin 8 → EReal) => (Finset.univ : Finset (Fin 8)).fold max i f) word_bot (funext fun k => ?_)
  exact (congrArg (val_main_v8 (F := Ideal) x Wg bg) (lift_last2 _ b k)).trans (gates_eq x Wg bg b k)

/-- The maximum the reference subtracts, at any column. -/
theorem gate_max_bcast (b : Fin 32768) (n : Fin 8) : val_main_v13 (F := Ideal) x Wg bg (ix2 b n) = top (gate x Wg bg b) := by
  rw [val_main_v13_apply, val_main_v12_apply, val_main_v11_apply, val_main_v10_apply, val_main_cst_0_apply, word_bot]
  have e : idx_main_v12 (idx_main_v13 (ix2 b n)) = ix1 b := funext fun a => match a with | ⟨0, _⟩ => rfl
  rw [e, gate_max]
  exact max_bot_top _

/-- The exponential of a gate logit less the row's maximum. -/
theorem gate_exp (b : Fin 32768) (n : Fin 8) :
    val_main_v15 (F := Ideal) x Wg bg (ix2 b n) = Ideal.exp (gate x Wg bg b n - top (gate x Wg bg b)) := by
  rw [val_main_v15_apply, val_main_v14_apply, gates_eq, gate_max_bcast]
  rfl

/-- The reference's gate weights are the softmax of its logits. -/
theorem weights_eq (b : Fin 32768) (n : Fin 8) :
    val_main_v19 (F := Ideal) x Wg bg (ix2 b n) = softmax (gate x Wg bg b) n := by
  rw [val_main_v19_apply, val_main_v18_apply, val_main_v17_apply, val_main_v16_apply, gate_exp]
  unfold softmax
  refine congrArg (Ideal.div _) ?_
  rw [val_main_cst_1_apply, word_zero, zero_add]
  refine Finset.sum_congr rfl fun k _ => ?_
  rw [← gate_exp]
  exact congrArg (val_main_v15 (F := Ideal) x Wg bg) (funext fun a => match a with | ⟨0, _⟩ => rfl | ⟨1, _⟩ => rfl)

/-! ## The selected expert -/

/-- The index word the top-1 search returns, for gate logits below `+∞`: the selected expert. -/
theorem index_eq (hg : ∀ b n, gate x Wg bg b n < ⊤) (b : Fin 32768) :
    val_main_indices (F := Ideal) x Wg bg (ix2 b 0) = BitVec.ofNat 32 (pick x Wg bg b).val := by
  unfold val_main_indices
  have h := topK_index (val_main_v19 (F := Ideal) x Wg bg) sliceFits_S32768x8_S32768x1 b
  refine h.trans ?_
  rw [show (fun n => val_main_v19 (F := Ideal) x Wg bg (ix2 b n)) = softmax (gate x Wg bg b) from
    funext fun n => weights_eq x Wg bg b n]
  rw [← ((first_selects (gate x Wg bg b)).softmax (hg b)).eq_first]
  rfl

/-- A word below `2 ^ 31` is not negative, so wrapping it by a length leaves it. -/
theorem wrap_ofNat (n : ℕ) (hn : n < 2 ^ 31) (k : BitVec 32) :
    Scalar.select (IntOp.cmpi .slt (BitVec.ofNat 32 n) 0#32) (IntOp.addi (BitVec.ofNat 32 n) k) (BitVec.ofNat 32 n)
      = BitVec.ofNat 32 n := by
  have h : IntOp.cmpi .slt (BitVec.ofNat 32 n) 0#32 = 0#1 :=
    (WordCmp.cmpi_slt_ofNat_eq_zero_iff (w := 32) (a := n) (b := 0) hn (by decide)).2 (Nat.not_lt_zero n)
  rw [h, select_zero]

/-- The scatter's row word for row `b` is `b`. -/
theorem row_word (b : Fin 32768) : val_main_v27 (F := Ideal) (ix2 b 0) = BitVec.ofNat 32 b.val := by
  rw [val_main_v27_apply, val_main_v24_apply, val_main_v26_apply, val_main_v22_apply, val_main_v21_apply,
    val_main_v23_apply, val_main_c_apply]
  exact wrap_ofNat b.val (lt_trans b.isLt (by decide)) _

/-- Its column word is the selected expert. -/
theorem col_word (hg : ∀ b n, gate x Wg bg b n < ⊤) (b : Fin 32768) :
    val_main_v32 (F := Ideal) x Wg bg (ix2 b 0) = BitVec.ofNat 32 (pick x Wg bg b).val := by
  rw [val_main_v32_apply, val_main_v29_apply, val_main_v31_apply, index_eq x Wg bg hg, val_main_v28_apply,
    val_main_c_4_apply]
  exact wrap_ofNat _ (lt_trans (pick x Wg bg b).isLt (by decide)) _

/-- The pair of words the scatter reads for row `b`: first the row … -/
theorem pair_row (b : Fin 32768) : val_main_v35 (F := Ideal) x Wg bg (ix3 b 0 0) = BitVec.ofNat 32 b.val := by
  unfold val_main_v35
  rw [concatenate_pair_apply_left (t := S32768x1x2) (s₁ := S32768x1x1) (s₂ := S32768x1x1) 2 _ _ _ (ix3 b 0 0) rfl (ix3 b 0 0)
    (fun a => match a with | ⟨0, _⟩ => rfl | ⟨1, _⟩ => rfl | ⟨2, _⟩ => rfl), val_main_v33_apply]
  exact (at2 (val_main_v27 (F := Ideal)) _ b 0 rfl rfl).trans (row_word b)

/-- … then the selected expert. -/
theorem pair_col (hg : ∀ b n, gate x Wg bg b n < ⊤) (b : Fin 32768) :
    val_main_v35 (F := Ideal) x Wg bg (ix3 b 0 1) = BitVec.ofNat 32 (pick x Wg bg b).val := by
  unfold val_main_v35
  rw [concatenate_pair_apply_right (t := S32768x1x2) (s₁ := S32768x1x1) (s₂ := S32768x1x1) 2 _ _ _ (ix3 b 0 1) rfl rfl (ix3 b 0 0)
    (fun a ha => match a with | ⟨0, _⟩ => rfl | ⟨1, _⟩ => rfl | ⟨2, _⟩ => absurd rfl ha) rfl, val_main_v34_apply]
  exact (at2 (val_main_v32 (F := Ideal) x Wg bg) _ b 0 rfl rfl).trans (col_word x Wg bg hg b)

/-- Overwriting by one value at the steps where a condition holds leaves that value if it holds anywhere. -/
theorem foldl_overwrite {ι : Type} (P : ι → Prop) [DecidablePred P] (u : EReal) :
    ∀ (l : List ι) (z : EReal), l.foldl (fun a n => if P n then u else a) z = if ∃ n ∈ l, P n then u else z
  | [], z => by simp
  | n :: l, z => by
    rw [List.foldl_cons, foldl_overwrite P u l]
    by_cases h : ∃ k ∈ l, P k
    · rw [if_pos h, if_pos (by obtain ⟨k, hk, hp⟩ := h; exact ⟨k, List.mem_cons_of_mem _ hk, hp⟩)]
    · rw [if_neg h]
      by_cases hn : P n
      · rw [if_pos hn, if_pos ⟨n, List.mem_cons_self, hn⟩]
      · rw [if_neg hn, if_neg]
        rintro ⟨k, hk, hp⟩
        rcases List.mem_cons.1 hk with rfl | hk
        · exact hn hp
        · exact h ⟨k, hk, hp⟩

/-- Update `(a, 0)` of the scatter lands at `(b, n)` exactly when `a` is `b` and row `b` selects `n`. -/
theorem lands (hg : ∀ b n, gate x Wg bg b n < ⊤) (a b : Fin 32768) (n : Fin 8) :
    scatter_S32768x8_S32768x1x2_S32768x1_n_01_01_2.resultIdx? (ix2 a (0 : Fin 1)) (val_main_v35 (F := Ideal) x Wg bg)
      = some (ix2 b n) ↔ a = b ∧ pick x Wg bg a = n := by
  have h := scatter_lands2 (R := 32768) (C := 8) (A := 32768) (B := 1) scatter_S32768x8_S32768x1x2_S32768x1_n_01_01_2 rfl rfl rfl
    (val_main_v35 (F := Ideal) x Wg bg) a 0 b n
  refine h.trans ?_
  rw [pair_row, pair_col x Wg bg hg, WordCmp.toInt_ofNat_of_lt (w := 32) (lt_trans a.isLt (by decide)),
    WordCmp.toInt_ofNat_of_lt (w := 32) (lt_trans (pick x Wg bg a).isLt (by decide))]
  constructor
  · rintro ⟨h1, h2⟩
    exact ⟨Fin.ext (by exact_mod_cast h1), Fin.ext (by exact_mod_cast h2)⟩
  · rintro ⟨rfl, rfl⟩
    exact ⟨rfl, rfl⟩

/-- The reference's selection table: one where row `b` selects expert `n`, zero elsewhere. -/
theorem table_eq (hg : ∀ b n, gate x Wg bg b n < ⊤) (b : Fin 32768) (n : Fin 8) :
    val_main_v37 (F := Ideal) x Wg bg (ix2 b n) = if pick x Wg bg b = n then (1 : EReal) else 0 := by
  unfold val_main_v37
  rw [scatter_at]
  have hu : ∀ i, val_main_v36 (F := Ideal) i = (1 : EReal) := fun i => by
    rw [val_main_v36_apply, val_main_cst_6_apply]; exact word_one
  have hz : val_main_v20 (F := Ideal) (ix2 b n) = (0 : EReal) := by
    rw [val_main_v20_apply, val_main_cst_2_apply]; exact word_zero
  simp only [hu, hz]
  rw [foldl_overwrite]
  refine ite_congr (propext ⟨?_, fun h => ?_⟩) (fun _ => rfl) fun _ => rfl
  · rintro ⟨k, -, hk⟩
    generalize S32768x1.rowMajor.symm k = u at hk
    rw [eq_ix2 u, show u 1 = (0 : Fin 1) from Fin.ext (Nat.lt_one_iff.1 (idx2_lt1 u))] at hk
    have hk' := (lands x Wg bg hg (u 0) b n).1 hk
    exact hk'.1 ▸ hk'.2
  · refine ⟨S32768x1.rowMajor (ix2 b (0 : Fin 1)), List.mem_finRange _, ?_⟩
    rw [Equiv.symm_apply_apply]
    exact (lands x Wg bg hg b b n).2 ⟨rfl, h⟩

/-! ## The counts -/

/-- The word the reference counts at row `b`, expert `n`: one where the row selects the expert, else zero. -/
theorem flag_eq (hg : ∀ b n, gate x Wg bg b n < ⊤) (b : Fin 32768) (n : Fin 8) :
    val_main_v56 (F := Ideal) x Wg bg (ix2 b n) = (BitVec.ofBool (decide (pick x Wg bg b = n))).setWidth 32 := by
  rw [val_main_v56_apply, val_main_v55_apply, table_eq x Wg bg hg, val_main_v54_apply, val_main_cst_11_apply, word_zero]
  refine congrArg (BitVec.setWidth 32) ?_
  show BitVec.ofBool (decide ((0 : EReal) < if pick x Wg bg b = n then (1 : EReal) else 0)) = _
  by_cases h : pick x Wg bg b = n <;> simp [h]

/-- The reference's counts are the specification's. -/
theorem counts_eq (hg : ∀ b n, gate x Wg bg b n < ⊤) (n : Fin 8) :
    val_main_v58 (F := Ideal) x Wg bg (ix2 0 n) = load x Wg bg n := by
  rw [val_main_v58_apply]
  have e : idx_main_v58 (ix2 (0 : Fin 1) n) = ix1 n := funext fun a => match a with | ⟨0, _⟩ => Fin.ext (by show 0 * 8 + n.val = n.val; omega)
  rw [e]
  unfold val_main_v57
  rw [Host.reduce_eq_fold_single IntOp.addi _ _ _ (by decide : S32768x8.Reduces [0] S8)]
  have h56 : (val_main_v56 (F := Ideal) x Wg bg ∘ (by decide : S32768x8.Reduces [0] S8).lift (ix1 n))
      = fun k : Fin 32768 => (BitVec.ofBool (decide (pick x Wg bg k = n))).setWidth 32 := funext fun k =>
    (congrArg (val_main_v56 (F := Ideal) x Wg bg) (lift_first2 _ n k)).trans (flag_eq x Wg bg hg k n)
  rw [h56, val_main_c_12_apply]
  have h := IndicatorCount.fold_addi_setWidth_eq_card (w := 32) (fun k : Fin 32768 => BitVec.ofBool (decide (pick x Wg bg k = n))) Finset.univ
  refine h.trans ?_
  unfold load
  refine congrArg (fun s : Finset (Fin 32768) => BitVec.ofNat 32 s.card) (Finset.filter_congr fun k _ => ?_)
  by_cases h : pick x Wg bg k = n <;> simp [h]

/-! ## The combined prediction -/

/-- The row maximum of an expert's logits. -/
theorem expert_max (n : Fin 8) (b : Fin 32768) : val_main_v38 (F := Ideal) x We be (ix2 n b) = top (logit x We be b n) := by
  unfold val_main_v38
  rw [Host.reduce_eq_fold_single (FloatOps.maximumf (F := Ideal) (φ := .f32)) _ _ _ (by decide : S8x32768x10.Reduces [2] S8x32768)]
  unfold top
  refine congrArg₂ (fun i (f : Fin 10 → EReal) => (Finset.univ : Finset (Fin 10)).fold max i f) word_bot (funext fun k => ?_)
  exact (congrArg (val_main_v4 (F := Ideal) x We be) (lift_last3 _ n b k)).trans (logits_eq x We be n b k)

/-- The exponential of an expert's logit less the row's maximum. -/
theorem expert_exp (n : Fin 8) (b : Fin 32768) (c : Fin 10) :
    val_main_v44 (F := Ideal) x We be (ix3 n b c) = Ideal.exp (logit x We be b n c - top (logit x We be b n)) := by
  rw [val_main_v44_apply, val_main_v43_apply, logits_eq, val_main_v42_apply, val_main_v41_apply, val_main_v40_apply,
    val_main_v39_apply, val_main_cst_8_apply, word_bot]
  have e : idx_main_v41 (idx_main_v42 (ix3 n b c)) = ix2 n b := funext fun a => match a with | ⟨0, _⟩ => rfl | ⟨1, _⟩ => rfl
  rw [e, expert_max]
  exact congrArg (fun t => Ideal.exp (logit x We be b n c - t)) (max_bot_top _)

/-- The reference's expert probabilities are the softmax of the expert's logits. -/
theorem probs_eq (n : Fin 8) (b : Fin 32768) (c : Fin 10) :
    val_main_v48 (F := Ideal) x We be (ix3 n b c) = softmax (logit x We be b n) c := by
  rw [val_main_v48_apply, val_main_v47_apply, val_main_v46_apply, val_main_v45_apply, expert_exp]
  unfold softmax
  refine congrArg (Ideal.div _) ?_
  rw [val_main_cst_9_apply, word_zero, zero_add]
  refine Finset.sum_congr rfl fun k _ => ?_
  rw [← expert_exp]
  exact congrArg (val_main_v44 (F := Ideal) x We be)
    (funext fun a => match a with | ⟨0, _⟩ => rfl | ⟨1, _⟩ => rfl | ⟨2, _⟩ => rfl)

/-- A sum against a 0/1 indicator of one position is the term there. -/
theorem sum_indicator {N : ℕ} (f : Fin N → EReal) (p : Fin N) : ∑ k, f k * (if p = k then (1 : EReal) else 0) = f p := by
  rw [Finset.sum_eq_single p (fun k _ hk => by rw [if_neg (Ne.symm hk), mul_zero]) (fun h => absurd (Finset.mem_univ p) h),
    if_pos rfl, mul_one]

/-- The reference's combined prediction is the specification's. -/
theorem comb_eq (hg : ∀ b n, gate x Wg bg b n < ⊤) (b : Fin 32768) (c : Fin 10) :
    val_main_v53 (F := Ideal) x We be Wg bg (ix2 b c) = comb x We be Wg bg b c := by
  rw [val_main_v53_apply, val_main_cst_10_apply, word_zero, zero_add]
  unfold comb
  rw [← sum_indicator (fun n => softmax (logit x We be b n) c) (pick x Wg bg b)]
  refine Finset.sum_congr rfl fun n _ => ?_
  have e : idx_main_v53 (ix2 b c) n = ix3 n b c := funext fun a => match a with | ⟨0, _⟩ => rfl | ⟨1, _⟩ => rfl | ⟨2, _⟩ => rfl
  rw [e, val_main_v52_apply, probs_eq, val_main_v51_apply, val_main_v50_apply, val_main_v49_apply]
  have e' : idx_main_v49 (idx_main_v50 (idx_main_v51 (ix3 n b c))) = ix2 b n := funext fun a => match a with | ⟨0, _⟩ => rfl | ⟨1, _⟩ => rfl
  rw [e', table_eq x Wg bg hg]
  rfl

end Mixture.Ref

end
-- ==== Proof.Below.lean ====
/- The precondition read back: where it holds, every logit of the gate is below `+∞`. -/
module

public import proofs.«01_k».proof.Pre_gate_below_infinity
public import proofs.«01_k».proof.Proof.Reference

@[expose] public section

noncomputable section

namespace Cert.Pre_gate_below_infinity

/-- The side conditions of the precondition's operations hold. -/
theorem facts : Facts where
  bcast_S8_S1x8_1 := by decide
  bcast_S1x8_S32768x8_0_1 := by decide
  bcast_S_S32768x8 := by decide
  reducesTo_S32768x8_S_d0_1 := by decide
  h_S_ := by decide
  dot_S32768x768_S768x8_S32768x8_1_0_0_1_n_n_wf := by decide

end Cert.Pre_gate_below_infinity

namespace Mixture.Below

open Idealize.ShloMosaic Idealize.ShloMosaic.ValueIdx Cert.Pre_gate_below_infinity

/-- A conjunction over a set is one only where every member is one. -/
theorem all_one {ι : Type} [DecidableEq ι] (S : Finset ι) (f : ι → BitVec 1) (i0 : BitVec 1) (h : S.fold IntOp.andi i0 f = 1#1) :
    ∀ k ∈ S, f k = 1#1 := by
  induction S using Finset.induction_on with
  | empty => exact fun k hk => absurd hk (Finset.notMem_empty k)
  | insert a s ha ih =>
    rw [Finset.fold_insert ha] at h
    have two : ∀ p q : BitVec 1, IntOp.andi p q = 1#1 → p = 1#1 ∧ q = 1#1 := by decide
    obtain ⟨h1, h2⟩ := two _ _ h
    intro k hk
    rcases Finset.mem_insert.1 hk with rfl | hk
    · exact h1
    · exact ih h2 k hk

/-- The precondition says every logit of the gate is below `+∞`. -/
theorem gate_lt [hF : Facts] (x : Sx.Idx → EReal) (We : Swe.Idx → EReal) (be : Sbe.Idx → EReal) (Wg : Swg.Idx → EReal)
    (bg : Sbg.Idx → EReal) (h : fn (F := Ideal) x We be Wg bg = fun _ => 1#1) (b : Fin 32768) (n : Fin 8) : gate x Wg bg b n < ⊤ := by
  have h' := congrFun h ix0
  unfold fn at h'
  dsimp only at h'
  rw [Host.reduce_eq_fold] at h'
  have hk := all_one _ _ _ h' (ix2 b n) (Finset.mem_filter.2 ⟨Finset.mem_univ _, funext fun a => a.elim0⟩)
  have hc : Ideal.cmp .olt (Cert.ReferenceIdeal.Read.val_main_v8 (F := Ideal) x Wg bg (ix2 b n))
      (FloatOps.ofBits (F := Ideal) .f32 0x7F800000#32) = 1#1 := hk
  rw [Ref.gates_eq, word_top] at hc
  by_contra hlt
  have : Ideal.cmp .olt (gate x Wg bg b n) ⊤ = 0#1 := congrArg BitVec.ofBool (decide_eq_false hlt)
  exact absurd (hc.symm.trans this) (by decide)

end Mixture.Below

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Reference
public import proofs.«01_k».proof.Proof.Below
public import Idealize.ShloMosaic.Lib.Quiescent
public import Idealize.ShloMosaic.Adequacy
public import Idealize.ShloMosaic.Init

@[expose] public section

noncomputable section

namespace Cert.Proof

open Idealize.ShloMosaic hiding ix1 ix2 ix3 eq_ix1 eq_ix2 eq_ix3
open Idealize.ShloMosaic.TcCoe Idealize.ShloMosaic.ValueIdx Idealize.SL.Sem

/-- The kernel runs, keeps its arguments and ends quiescent. -/
theorem kernel_runs : Cert.quiescent_Kernel := fun m ρ _ => Cert.Kernel.Gen.frame (F := Bits) m ρ

/-- So does its idealization. -/
theorem ideal_runs : Cert.quiescent_KernelIdeal := fun m ρ _ => Cert.KernelIdeal.Gen.frame (F := Ideal) m ρ

/-- So does the reference. -/
theorem reference_runs : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

section Reference

open Cert.ReferenceIdeal

variable (m' : (ℓ : Loc nD τ sig) → Buf (Elt Ideal) ℓ) (c : Dev nD)
  (x : Mixture.Sx.Idx → EReal) (We : Mixture.Swe.Idx → EReal) (be : Mixture.Sbe.Idx → EReal) (Wg : Mixture.Swg.Idx → EReal)
  (bg : Mixture.Sbg.Idx → EReal)

/-- The reference's first result, entry by entry. -/
theorem ref_comb (hg : ∀ b n, Mixture.gate x Wg bg b n < ⊤) (i : S32768x10.Idx) :
    Read.val_main_v53 (F := Ideal) x We be Wg bg i = Mixture.comb x We be Wg bg (i 0) (i 1) :=
  (congrArg (Read.val_main_v53 (F := Ideal) x We be Wg bg) (eq_ix2 i)).trans (Mixture.Ref.comb_eq x We be Wg bg hg _ _)

/-- The reference's second result, entry by entry. -/
theorem ref_logits (i : S8x32768x10.Idx) :
    Read.val_main_v4 (F := Ideal) x We be i = Mixture.logit x We be (i 1) (i 0) (i 2) :=
  (congrArg (Read.val_main_v4 (F := Ideal) x We be) (eq_ix3 i)).trans (Mixture.Ref.logits_eq x We be _ _ _)

/-- The reference's third result, entry by entry. -/
theorem ref_loads (hg : ∀ b n, Mixture.gate x Wg bg b n < ⊤) (i : S1x8.Idx) :
    Read.val_main_v58 (F := Ideal) x Wg bg i = Mixture.load x Wg bg (i 1) := by
  have e : i = ix2 (0 : Fin 1) (i 1) :=
    funext fun a => match a with | ⟨0, _⟩ => Fin.ext (Nat.lt_one_iff.1 (i 0).isLt) | ⟨1, _⟩ => rfl
  exact (congrArg (Read.val_main_v58 (F := Ideal) x Wg bg) e).trans (Mixture.Ref.counts_eq x Wg bg hg _)

end Reference

/-- Over the extended reals the kernel and the reference leave the same three results. -/
theorem agree [hP : Cert.Pre_gate_below_infinity.Facts] :
    Cert.algebraic_KernelIdeal_ReferenceIdeal_pre_gate_below_infinity := by
  intro m ρ m' ρ' hpre hargs
  refine ⟨Mixture.Arrays.combs m, Mixture.Arrays.logits m, Mixture.Arrays.loads m, ?_, ?_⟩
  · refine (θ_run Cert.KernelIdeal.defs _ _).mono (fun r h c => ?_) (Cert.KernelIdeal.Value.run_blocks (F := Ideal) m ρ)
    obtain ⟨h0, h1, h2, ha⟩ := h c
    exact ⟨h0.trans (Mixture.Arrays.final_combs m c), h1.trans (Mixture.Arrays.final_logits m c),
      h2.trans (Mixture.Arrays.final_loads m c), ha⟩
  · refine (θ_run Cert.ReferenceIdeal.defs _ _).mono (fun r h c => ?_) (Cert.ReferenceIdeal.Value.run (F := Ideal) m' ρ')
    obtain ⟨h0, h1, h2, ha⟩ := h c
    obtain ⟨a0, a1, a2, a3, a4⟩ := hargs c
    have hg := Mixture.Below.gate_lt _ _ _ _ _ (hpre c)
    refine ⟨h0.trans ?_, h1.trans ?_, h2.trans ?_, ha⟩
    · rw [Cert.ReferenceIdeal.Read.val_main_v53_eq, a0, a1, a2, a3, a4]
      exact funext fun i => ref_comb _ _ _ _ _ hg i
    · rw [Cert.ReferenceIdeal.Read.val_main_v4_eq, a0, a1, a2]
      exact funext fun i => ref_logits _ _ _ i
    · rw [Cert.ReferenceIdeal.Read.val_main_v58_eq, a0, a3, a4]
      exact funext fun i => ref_loads _ _ _ hg i

/-- The certificate's claim. -/
theorem claim : Cert.Claim := ⟨Cert.Kernel.Gen.facts, Cert.KernelIdeal.Gen.facts, Cert.ReferenceIdeal.Gen.facts,
  Cert.Pre_gate_below_infinity.facts, kernel_runs, ideal_runs, fun m ρ _ => ideal_runs m ρ trivial, reference_runs,
  fun m ρ _ => reference_runs m ρ trivial, trivial, agree (hP := Cert.Pre_gate_below_infinity.facts)⟩

end Cert.Proof

end
